-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x50x512 : Shape := ⟨3, ![1024, 50, 512]⟩
abbrev S512x512 : Shape := ⟨2, ![512, 512]⟩
abbrev S512 : Shape := ⟨1, ![512]⟩
abbrev S50000x512 : Shape := ⟨2, ![50000, 512]⟩
abbrev S_ : Shape := ⟨0, ![]⟩
abbrev S1024x512 : Shape := ⟨2, ![1024, 512]⟩
abbrev S1x512 : Shape := ⟨2, ![1, 512]⟩
abbrev S1024 : Shape := ⟨1, ![1024]⟩
abbrev S1024x1 : Shape := ⟨2, ![1024, 1]⟩
abbrev S50000 : Shape := ⟨1, ![50000]⟩
abbrev S50000x1 : Shape := ⟨2, ![50000, 1]⟩
abbrev S53248x512 : Shape := ⟨2, ![53248, 512]⟩
abbrev S1024x8 : Shape := ⟨2, ![1024, 8]⟩
abbrev S128x512 : Shape := ⟨2, ![128, 512]⟩
abbrev S256x512 : Shape := ⟨2, ![256, 512]⟩
abbrev S4096x512 : Shape := ⟨2, ![4096, 512]⟩
abbrev S256x8 : Shape := ⟨2, ![256, 8]⟩
abbrev S256x1664 : Shape := ⟨2, ![256, 1664]⟩
abbrev S256x4096 : Shape := ⟨2, ![256, 4096]⟩
abbrev S256 : Shape := ⟨1, ![256]⟩
abbrev S256x1 : Shape := ⟨2, ![256, 1]⟩
abbrev S256x120 : Shape := ⟨2, ![256, 120]⟩
abbrev S256x128 : Shape := ⟨2, ![256, 128]⟩

abbrev nBuf : Space → Nat
  | .hbm => 46
  | .vmem => 16
  | .smem => 0
  | _ => 0

abbrev bufTy : (tb : Table) → Fin (tcTables nBuf tb) → BufTy
  | .hbm, ⟨0, _⟩ => ⟨S1024x50x512, .f32⟩
  | .hbm, ⟨1, _⟩ => ⟨S512x512, .f32⟩
  | .hbm, ⟨2, _⟩ => ⟨S512, .f32⟩
  | .hbm, ⟨3, _⟩ => ⟨S50000x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S1x512, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x512, .f32⟩
  | .hbm, ⟨20, _⟩ => ⟨S1024x512, .f32⟩
  | .hbm, ⟨21, _⟩ => ⟨S50000x512, .f32⟩
  | .hbm, ⟨22, _⟩ => ⟨S_, .f32⟩
  | .hbm, ⟨23, _⟩ => ⟨S50000, .f32⟩
  | .hbm, ⟨24, _⟩ => ⟨S50000x1, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S50000x512, .f32⟩
  | .hbm, ⟨30, _⟩ => ⟨S50000x512, .f32⟩
  | .hbm, ⟨31, _⟩ => ⟨S50000x512, .f32⟩
  | .hbm, ⟨32, _⟩ => ⟨S_, .f32⟩
  | .hbm, ⟨33, _⟩ => ⟨S50000, .f32⟩
  | .hbm, ⟨34, _⟩ => ⟨S50000x1, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x512, .f32⟩
  | .hbm, ⟨40, _⟩ => ⟨S50000x512, .f32⟩
  | .hbm, ⟨41, _⟩ => ⟨S_, .i32⟩
  | .hbm, ⟨42, _⟩ => ⟨S_, .f32⟩
  | .hbm, ⟨43, _⟩ => ⟨S53248x512, .f32⟩
  | .hbm, ⟨44, _⟩ => ⟨S1024x8, .f32⟩
  | .hbm, ⟨45, _⟩ => ⟨S1024x8, .i32⟩
  | .local _ .vmem, ⟨0, _⟩ => ⟨S128x512, .f32⟩
  | .local _ .vmem, ⟨1, _⟩ => ⟨S128x512, .f32⟩
  | .local _ .vmem, ⟨2, _⟩ => ⟨S512x512, .f32⟩
  | .local _ .vmem, ⟨3, _⟩ => ⟨S1x512, .f32⟩
  | .local _ .vmem, ⟨4, _⟩ => ⟨S128x512, .f32⟩
  | .local _ .vmem, ⟨5, _⟩ => ⟨S128x512, .f32⟩
  | .local _ .vmem, ⟨6, _⟩ => ⟨S256x512, .f32⟩
  | .local _ .vmem, ⟨7, _⟩ => ⟨S256x512, .f32⟩
  | .local _ .vmem, ⟨8, _⟩ => ⟨S4096x512, .f32⟩
  | .local _ .vmem, ⟨9, _⟩ => ⟨S4096x512, .f32⟩
  | .local _ .vmem, ⟨10, _⟩ => ⟨S256x8, .f32⟩
  | .local _ .vmem, ⟨11, _⟩ => ⟨S256x8, .f32⟩
  | .local _ .vmem, ⟨12, _⟩ => ⟨S256x8, .i32⟩
  | .local _ .vmem, ⟨13, _⟩ => ⟨S256x8, .i32⟩
  | .local _ .vmem, ⟨14, _⟩ => ⟨S256x1664, .f32⟩
  | .local _ .vmem, ⟨15, _⟩ => ⟨S256x1664, .f32⟩
  | _, _ => ⟨S1024x50x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_call0_v0 : Ref sig .tc := ⟨.hbm, 11, rfl⟩
abbrev main_call0_call0_cst : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_v5 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_call1_v0 : Ref sig .tc := ⟨.hbm, 21, rfl⟩
abbrev main_call0_call1_cst : Ref sig .tc := ⟨.hbm, 22, rfl⟩
abbrev main_call0_call1_v1 : Ref sig .tc := ⟨.hbm, 23, rfl⟩
abbrev main_call0_call1_v2 : Ref sig .tc := ⟨.hbm, 24, rfl⟩
abbrev main_call0_v10 : Ref sig .tc := ⟨.hbm, 25, rfl⟩
abbrev main_call0_cst_2 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_call2_v0 : Ref sig .tc := ⟨.hbm, 31, rfl⟩
abbrev main_call0_call2_cst : Ref sig .tc := ⟨.hbm, 32, rfl⟩
abbrev main_call0_call2_v1 : Ref sig .tc := ⟨.hbm, 33, rfl⟩
abbrev main_call0_call2_v2 : Ref sig .tc := ⟨.hbm, 34, rfl⟩
abbrev main_call0_v15 : Ref sig .tc := ⟨.hbm, 35, rfl⟩
abbrev main_call0_cst_3 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_c : Ref sig .tc := ⟨.hbm, 41, rfl⟩
abbrev main_call0_call3_v0 : Ref sig .tc := ⟨.hbm, 42, rfl⟩
abbrev main_call0_v20 : Ref sig .tc := ⟨.hbm, 43, rfl⟩
abbrev main_v0_0 : Ref sig .tc := ⟨.hbm, 44, rfl⟩
abbrev main_v0_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 13], ![false, false]⟩

def k1_mult1 (i : grid1.Coords) : BitVec 32 :=
  let arg1 : BitVec 32 := BitVec.ofNat 32 (i 1).val
  let c128_i32 : BitVec 32 := 128#32
  let v125 : BitVec 32 := Scalar.muli arg1 c128_i32
  v125
def k1_off1 (i : grid1.Coords) : Fin 2 → Nat :=
  let c0_37 : Index := 0#32
  let arg1 : BitVec 32 := BitVec.ofNat 32 (i 1).val
  let c128_i32 : BitVec 32 := 128#32
  let v125 : BitVec 32 := Scalar.muli arg1 c128_i32
  let v126 : BitVec 32 := v125
  let v128 : Index := Scalar.indexCast v126
  ![0, v128.toNat]
def k1_cond1 (i : grid1.Coords) : BitVec 1 :=
  let arg1 : BitVec 32 := BitVec.ofNat 32 (i 1).val
  let c12_i32 : BitVec 32 := 12#32
  let v137 : BitVec 1 := Scalar.cmpi .eq arg1 c12_i32
  let v138 : BitVec 32 := Scalar.extui v137
  let c0_i32 : BitVec 32 := 0#32
  let v139 : BitVec 1 := Scalar.cmpi .ne v138 c0_i32
  v139

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x8 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S1024x50x512 : Shape := ⟨3, ![1024, 50, 512]⟩
abbrev S512x512 : Shape := ⟨2, ![512, 512]⟩
abbrev S512 : Shape := ⟨1, ![512]⟩
abbrev S50000x512 : Shape := ⟨2, ![50000, 512]⟩
abbrev S_ : Shape := ⟨0, ![]⟩
abbrev S1024x512 : Shape := ⟨2, ![1024, 512]⟩
abbrev S1x512 : Shape := ⟨2, ![1, 512]⟩
abbrev S50000 : Shape := ⟨1, ![50000]⟩
abbrev S50000x1 : Shape := ⟨2, ![50000, 1]⟩
abbrev S1024 : Shape := ⟨1, ![1024]⟩
abbrev S1024x1 : Shape := ⟨2, ![1024, 1]⟩
abbrev S512x50000 : Shape := ⟨2, ![512, 50000]⟩
abbrev S1024x50000 : Shape := ⟨2, ![1024, 50000]⟩
abbrev S1024x8 : Shape := ⟨2, ![1024, 8]⟩

abbrev nBuf : Space → Nat
  | .hbm => 48
  | .vmem => 0
  | .smem => 0
  | _ => 0

abbrev bufTy : (tb : Table) → Fin (tcTables nBuf tb) → BufTy
  | .hbm, ⟨0, _⟩ => ⟨S1024x50x512, .f32⟩
  | .hbm, ⟨1, _⟩ => ⟨S512x512, .f32⟩
  | .hbm, ⟨2, _⟩ => ⟨S512, .f32⟩
  | .hbm, ⟨3, _⟩ => ⟨S50000x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S512x512, .f32⟩
  | .hbm, ⟨10, _⟩ => ⟨S1024x512, .f32⟩
  | .hbm, ⟨11, _⟩ => ⟨S1x512, .f32⟩
  | .hbm, ⟨12, _⟩ => ⟨S1024x512, .f32⟩
  | .hbm, ⟨13, _⟩ => ⟨S1024x512, .f32⟩
  | .hbm, ⟨14, _⟩ => ⟨S50000x512, .f32⟩
  | .hbm, ⟨15, _⟩ => ⟨S_, .f32⟩
  | .hbm, ⟨16, _⟩ => ⟨S50000, .f32⟩
  | .hbm, ⟨17, _⟩ => ⟨S50000x1, .f32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S50000x1, .f32⟩
  | .hbm, ⟨22, _⟩ => ⟨S50000x512, .f32⟩
  | .hbm, ⟨23, _⟩ => ⟨S50000x512, .f32⟩
  | .hbm, ⟨24, _⟩ => ⟨S50000x512, .f32⟩
  | .hbm, ⟨25, _⟩ => ⟨S_, .f32⟩
  | .hbm, ⟨26, _⟩ => ⟨S50000, .f32⟩
  | .hbm, ⟨27, _⟩ => ⟨S50000x1, .f32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x512, .f32⟩
  | .hbm, ⟨33, _⟩ => ⟨S50000x512, .f32⟩
  | .hbm, ⟨34, _⟩ => ⟨S1024x512, .f32⟩
  | .hbm, ⟨35, _⟩ => ⟨S_, .f32⟩
  | .hbm, ⟨36, _⟩ => ⟨S1024, .f32⟩
  | .hbm, ⟨37, _⟩ => ⟨S1024x1, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S1024x512, .f32⟩
  | .hbm, ⟨43, _⟩ => ⟨S1024x512, .f32⟩
  | .hbm, ⟨44, _⟩ => ⟨S512x50000, .f32⟩
  | .hbm, ⟨45, _⟩ => ⟨S1024x50000, .f32⟩
  | .hbm, ⟨46, _⟩ => ⟨S1024x8, .f32⟩
  | .hbm, ⟨47, _⟩ => ⟨S1024x8, .i32⟩
  | _, _ => ⟨S1024x50x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call2_v0 : Ref sig .tc := ⟨.hbm, 34, rfl⟩
abbrev main_call2_cst : Ref sig .tc := ⟨.hbm, 35, rfl⟩
abbrev main_call2_v1 : Ref sig .tc := ⟨.hbm, 36, rfl⟩
abbrev main_call2_v2 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_values : Ref sig .tc := ⟨.hbm, 46, rfl⟩
abbrev main_indices : Ref sig .tc := ⟨.hbm, 47, rfl⟩

abbrev nD : Nat := 1
abbrev τ : Topo := Topo.v7x

variable {F : FTy → Type} [FloatOps F]
-- ==== Proof.KernelIdeal.LinearRegion.lean ====
/-
  The first region of the program: the query projection, by row tiles of 128. At each grid point the body stores one
  tile of `mean · Wᵀ + bias` into the staging buffer of the output. This module states the body's run, the region's
  proof data at any contents of the buffers at its entry, and the obligation of the body at every grid point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A tile of the projection, from a tile of means, the weights and the bias row. -/
def linTile (x0 : Vec F S128x512 .f32) (x1 : Vec F S512x512 .f32) (x2 : Vec F S1x512 .f32) : Vec F S128x512 .f32 := k0_pay1 x0 x1 x2

set_option maxHeartbeats 1000000 in
/-- The body run: the inputs stay, the output's staging buffer holds the tile. -/
theorem run_linear (c : Dev nD) (E : Set ℕ) (i : grid0.Coords)
    (arg1 : Memref sig .tc .vmem S128x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S128x512 .f32) (harg4 : arg4.IsWhole)
    (x0 : Vec F S128x512 .f32) (x1 : Vec F S512x512 .f32) (x2 : Vec F S1x512 .f32) (y3 : Vec F S128x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare y3
        ∗ (iprop(owns (c : Thread nD τ) arg1 fullShare x0 ∗ owns (c : Thread nD τ) arg2 fullShare x1
            ∗ owns (c : Thread nD τ) arg3 fullShare x2 ∗ owns (c : Thread nD τ) arg4 fullShare (linTile x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%f4, %hf4, H4⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [← View.readAt_full arg1.view f1 inb_S128x512_S128x512_0_0, ← View.readAt_full arg2.view f2 inb_S512x512_S512x512_0_0,
    ← View.readAt_full arg3.view f3 inb_S1x512_S1x512_0_0]
  exact View.read_writes_full arg4.view f4 inb_S128x512_S128x512_0_0 _ []

section Region
-- the contents of the core's buffers when the region is entered
variable (V : (c : Dev nD) → (b : Ref sig .tc) → Buf (Elt F) ((c : Thread nD τ).loc b))

/-- The block of window `w`'s array that grid point `t` works on. -/
def linBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: inputs stay at their blocks, the output's buffer gets the tile. -/
def linDat (c : Dev nD) : Dat τ (Elt F) Unit ℕ (UR sig nD τ) ℕ cfg0 c where
  A w := V c (Pipeline.arrRef spec0 w)
  after w t := match w with
    | ⟨0, _⟩ => linBlk V c 0 t
    | ⟨1, _⟩ => linBlk V c 1 t
    | ⟨2, _⟩ => linBlk V c 2 t
    | ⟨3, _⟩ => linTile (linBlk V c 0 t) (linBlk V c 1 t) (linBlk V c 2 t)
  Φ _ := Pipeline.ΦA spec0 c
  q _ := fullShare
  owed _ := 0

theorem linDat_A (c : Dev nD) (w : Fin cfg0.W) : (linDat V c).A w = V c (Pipeline.arrRef spec0 w) := by dsimp only [linDat]
theorem linDat_after0 (c : Dev nD) (t : Fin cfg0.N) : (linDat V c).after 0 t = linBlk V c 0 t := by dsimp only [linDat]
theorem linDat_after1 (c : Dev nD) (t : Fin cfg0.N) : (linDat V c).after 1 t = linBlk V c 1 t := by dsimp only [linDat]
theorem linDat_after2 (c : Dev nD) (t : Fin cfg0.N) : (linDat V c).after 2 t = linBlk V c 2 t := by dsimp only [linDat]
theorem linDat_after3 (c : Dev nD) (t : Fin cfg0.N) :
    (linDat V c).after 3 t = linTile (linBlk V c 0 t) (linBlk V c 1 t) (linBlk V c 2 t) := by dsimp only [linDat]

/-- Before the body runs, an input's staging buffer holds its block. -/
theorem linDat_before0 (c : Dev nD) (t : Fin cfg0.N) (d) : (linDat V c).before 0 t d = linBlk V c 0 t :=
  ((linDat V c).before_in_eq_fetched 0 rfl (fun _ => rfl) (fun _ _ _ => rfl)
    (fun t => by rw [linDat_after0]; unfold Dat.blockOf linBlk; rw [linDat_A]) t d).trans
    (by unfold Dat.fetched Dat.blockOf linBlk; rw [linDat_A]; rfl)
theorem linDat_before1 (c : Dev nD) (t : Fin cfg0.N) (d) : (linDat V c).before 1 t d = linBlk V c 1 t :=
  ((linDat V c).before_in_eq_fetched 1 rfl (fun _ => rfl) (fun _ _ _ => rfl)
    (fun t => by rw [linDat_after1]; unfold Dat.blockOf linBlk; rw [linDat_A]) t d).trans
    (by unfold Dat.fetched Dat.blockOf linBlk; rw [linDat_A]; rfl)
theorem linDat_before2 (c : Dev nD) (t : Fin cfg0.N) (d) : (linDat V c).before 2 t d = linBlk V c 2 t :=
  ((linDat V c).before_in_eq_fetched 2 rfl (fun _ => rfl) (fun _ _ _ => rfl)
    (fun t => by rw [linDat_after2]; unfold Dat.blockOf linBlk; rw [linDat_A]) t d).trans
    (by unfold Dat.fetched Dat.blockOf linBlk; rw [linDat_A]; rfl)

/-- What the body is called with at point `t`, and what it returns. -/
def linPre (c : Dev nD) (t : Fin cfg0.N) : sProp 𝕄 :=
  iprop((linDat V c).Φ t.castSucc ∗ (linDat V c).owesAt () t.castSucc
    ∗ (∃ d, owns (c : Thread nD τ) (st0_0 t) fullShare ((linDat V c).before 0 t d))
    ∗ (∃ d, owns (c : Thread nD τ) (st0_1 t) fullShare ((linDat V c).before 1 t d))
    ∗ (∃ d, owns (c : Thread nD τ) (st0_2 t) fullShare ((linDat V c).before 2 t d))
    ∗ (∃ d, owns (c : Thread nD τ) (st0_3 t) fullShare ((linDat V c).before 3 t d)))
def linPost (c : Dev nD) (t : Fin cfg0.N) : sProp 𝕄 :=
  iprop((linDat V c).Φ t.succ ∗ (linDat V c).owesAt () t.succ
    ∗ owns (c : Thread nD τ) (st0_0 t) fullShare ((linDat V c).after 0 t)
    ∗ owns (c : Thread nD τ) (st0_1 t) fullShare ((linDat V c).after 1 t)
    ∗ owns (c : Thread nD τ) (st0_2 t) fullShare ((linDat V c).after 2 t)
    ∗ owns (c : Thread nD τ) (st0_3 t) fullShare ((linDat V c).after 3 t))

theorem linBody (c : Dev nD) (t : Fin cfg0.N) :
    linPre V c t ⊢ wp frame (wpE (defs₀ (F := F)) Variants.none c none) Set.univ (bodyAt0 t) (fun _ => linPost V c t) := by
  unfold linPre linPost bodyAt0
  simp only [linDat_before0, linDat_before1, linDat_before2]
  rw [show (linDat V c).Φ t.succ = (linDat V c).Φ t.castSucc from rfl,
    show (linDat V c).owesAt () t.succ = (linDat V c).owesAt () t.castSucc from rfl,
    linDat_after0, linDat_after1, linDat_after2, linDat_after3]
  iintro ⟨HΦ, Ho, ⟨%d0, H0⟩, ⟨%d1, H1⟩, ⟨%d2, H2⟩, ⟨%d3, H3⟩⟩
  iapply (run_linear c Set.univ (grid0.coords t) _ _ _ _ _ _ _ _ (linBlk V c 0 t) (linBlk V c 1 t) (linBlk V c 2 t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem linRow (t : Fin cfg0.N) : defs₀ (F := F) .tc cfg0.body (cfg0.bodyArgs t (cfg0.slots t)) = bodyAt0 t := by
  unfold defs₀; rw [Defs.onTc_tc]

/-- The body meets its obligation at every point. -/
theorem linObligation (c : Dev nD) : BodyObligation (linDat (F := F) V c) (defs₀ (F := F)) Variants.none () Set.univ := fun t => by
  rw [bigSep_W0, bigSep_W0, linRow]
  exact triple_restated (linBody V c t) rfl .rfl fun _ => .rfl

end Region

end Cert.KernelIdeal.Hand

end
-- ==== Proof.KernelIdeal.TopBody.lean ====
/-
  One grid point of the scoring kernel. The body multiplies a tile of normalised queries by a tile of normalised
  documents, picks the eight best columns of the tile in eight rounds, and stores them (padded to 128 lanes) in the two
  carried buffers at the lanes of this tile. At the last document tile it also picks the eight best of all that the
  carried buffers hold. Here the two runs of the body are stated: what it stores, as plain functions of what it reads.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one document tile contributes -/

/-- The score tile before the fourth round, the columns of the first three rounds removed. -/
def tileRest (i : grid1.Coords) (x0 : Vec F S256x512 .f32) (x1 : Vec F S4096x512 .f32) : FVec F S256x4096 .f32 := k1_pay52 i x0 x1

/-- The best score of the fourth round, as a column. -/
def tileFourth (i : grid1.Coords) (x0 : Vec F S256x512 .f32) (x1 : Vec F S4096x512 .f32) : FVec F S256x1 .f32 := k1_pay54 i x0 x1

/-- The eight best scores of the tile, padded to 128 lanes. -/
def tileVals (i : grid1.Coords) (x0 : Vec F S256x512 .f32) (x1 : Vec F S4096x512 .f32) : FVec F S256x128 .f32 :=
  k1_pay73 (k1_pay45 (F := F) i) (k1_pay47 i x0 x1) (k1_pay50 i x0 x1) (k1_pay53 i x0 x1)
    (k1_pay57 (k1_pay45 (F := F) i) (tileRest i x0 x1) (tileFourth i x0 x1))
    (k1_pay60 (k1_pay45 (F := F) i) (tileRest i x0 x1) (tileFourth i x0 x1))
    (k1_pay62 (k1_pay45 (F := F) i) (tileRest i x0 x1) (tileFourth i x0 x1))
    (k1_pay63 (k1_pay45 (F := F) i) (tileRest i x0 x1) (tileFourth i x0 x1))
    (k1_pay65 (k1_pay45 (F := F) i) (tileRest i x0 x1) (tileFourth i x0 x1)) (k1_pay66 (F := F))

/-- The column numbers of those scores, as floats. -/
def tileCols (i : grid1.Coords) (x0 : Vec F S256x512 .f32) (x1 : Vec F S4096x512 .f32) : FVec F S256x128 .f32 :=
  k1_pay1 (k1_pay74 (k1_pay45 (F := F) i) (k1_pay48 i x0 x1) (k1_pay51 i x0 x1)
    (k1_pay55 (k1_pay45 (F := F) i) (tileRest i x0 x1) (tileFourth i x0 x1))
    (k1_pay58 (k1_pay45 (F := F) i) (tileRest i x0 x1) (tileFourth i x0 x1))
    (k1_pay61 (k1_pay45 (F := F) i) (tileRest i x0 x1) (tileFourth i x0 x1))
    (k1_pay62 (k1_pay45 (F := F) i) (tileRest i x0 x1) (tileFourth i x0 x1))
    (k1_pay64 (k1_pay45 (F := F) i) (tileRest i x0 x1) (tileFourth i x0 x1))
    (k1_pay65 (k1_pay45 (F := F) i) (tileRest i x0 x1) (tileFourth i x0 x1)) (k1_pay66 (F := F)))

/-! ## What the last document tile hands out, from the two carried buffers -/

/-- The eight best of the carried scores. -/
def bestVals (a : Vec F S256x1664 .f32) : FVec F S256x8 .f32 :=
  k1_pay2 (k1_pay36 (k1_pay4 (F := F)) (k1_pay25 (k1_pay4 (F := F)) (k1_pay12 a) (k1_pay14 a)) (k1_pay27 (k1_pay4 (F := F)) (k1_pay12 a) (k1_pay14 a)) (k1_pay28 (F := F)))
    (k1_pay38 (k1_pay5 a)) (k1_pay39 (k1_pay9 a)) (k1_pay40 (k1_pay13 a))
    (k1_pay41 (k1_pay18 (k1_pay4 (F := F)) (k1_pay12 a) (k1_pay14 a))) (k1_pay42 (k1_pay22 (k1_pay4 (F := F)) (k1_pay12 a) (k1_pay14 a)))
    (k1_pay43 (k1_pay26 (k1_pay4 (F := F)) (k1_pay12 a) (k1_pay14 a)))
    (k1_pay44 (k1_pay4 (F := F)) (k1_pay25 (k1_pay4 (F := F)) (k1_pay12 a) (k1_pay14 a)) (k1_pay27 (k1_pay4 (F := F)) (k1_pay12 a) (k1_pay14 a)) (k1_pay28 (F := F)))

/-- The column numbers carried beside them, as integers. -/
def bestCols (a b : Vec F S256x1664 .f32) : IVec S256x8 32 :=
  k1_pay3 (k1_pay7 a b) (k1_pay11 a b) (k1_pay16 b (k1_pay4 (F := F)) (k1_pay14 a))
    (k1_pay20 b (k1_pay4 (F := F)) (k1_pay12 a) (k1_pay14 a)) (k1_pay24 b (k1_pay4 (F := F)) (k1_pay12 a) (k1_pay14 a))
    (k1_pay30 b (k1_pay4 (F := F)) (k1_pay27 (k1_pay4 (F := F)) (k1_pay12 a) (k1_pay14 a)) (k1_pay28 (F := F)))
    (k1_pay34 b (k1_pay4 (F := F)) (k1_pay25 (k1_pay4 (F := F)) (k1_pay12 a) (k1_pay14 a)) (k1_pay27 (k1_pay4 (F := F)) (k1_pay12 a) (k1_pay14 a)) (k1_pay28 (F := F)))
    (k1_pay37 b (k1_pay4 (F := F)) (k1_pay25 (k1_pay4 (F := F)) (k1_pay12 a) (k1_pay14 a)) (k1_pay27 (k1_pay4 (F := F)) (k1_pay12 a) (k1_pay14 a)) (k1_pay28 (F := F)))

/-- A carried buffer after the point: the tile's 128 lanes put in, the rest as it was. -/
def carried (i : grid1.Coords) (x : Vec F S256x1664 .f32) (w : FVec F S256x128 .f32) : Vec F S256x1664 .f32 :=
  VecWindow.put x (k1_off1 i) S256x128.size w

/-- What a whole view reads after the tile's lanes are stored. -/
theorem read_carried {sp : Space} (v : View sig .tc sp S256x1664 .f32) (f : v.ty.Contents (Elt F)) (i : grid1.Coords) (w : FVec F S256x128 .f32) :
    v.read (Elt F) (v.writes (Elt F) f [⟨Rect.unit (s := S256x1664) (k1_off1 i) S256x128.size (k1_off1_inb i), w⟩]) = carried i (v.read (Elt F) f) w := by
  rw [View.read_writes_cons_put _ _ _ _ _ rfl, View.writes_nil]; rfl

/-- A load of all of a view. -/
theorem load_queries {sp : Space} (v : View sig .tc sp S256x512 .f32) (f : v.ty.Contents (Elt F)) :
    v.readAt (Elt F) (Rect.unit (s := S256x512) ![0, 0] S256x512.size inb_S256x512_S256x512_0_0).toLoadRect f = v.read (Elt F) f := View.readAt_full v f _
theorem load_docs {sp : Space} (v : View sig .tc sp S4096x512 .f32) (f : v.ty.Contents (Elt F)) :
    v.readAt (Elt F) (Rect.unit (s := S4096x512) ![0, 0] S4096x512.size inb_S4096x512_S4096x512_0_0).toLoadRect f = v.read (Elt F) f := View.readAt_full v f _
theorem load_carried {sp : Space} (v : View sig .tc sp S256x1664 .f32) (f : v.ty.Contents (Elt F)) :
    v.readAt (Elt F) (Rect.unit (s := S256x1664) ![0, 0] S256x1664.size inb_S256x1664_S256x1664_0_0).toLoadRect f = v.read (Elt F) f := View.readAt_full v f _

set_option maxHeartbeats 1000000 in
/-- A point that is not the last of its row of tiles: the carried buffers take the tile's lanes, the outputs are left. -/
theorem run_inner (c : Dev nD) (E : Set ℕ) (i : grid1.Coords) (hc : ¬ k1_cond1 i = 1#1)
    (arg2 : Memref sig .tc .vmem S256x512 .f32) (harg2 : arg2.IsWhole) (arg3 : Memref sig .tc .vmem S4096x512 .f32) (harg3 : arg3.IsWhole)
    (arg4 : Memref sig .tc .vmem S256x8 .f32) (harg4 : arg4.IsWhole) (arg5 : Memref sig .tc .vmem S256x8 .i32) (harg5 : arg5.IsWhole)
    (arg6 : Memref sig .tc .vmem S256x1664 .f32) (harg6 : arg6.IsWhole) (arg7 : Memref sig .tc .vmem S256x1664 .f32) (harg7 : arg7.IsWhole)
    (x0 : Vec F S256x512 .f32) (x1 : Vec F S4096x512 .f32) (y2 : Vec F S256x8 .f32) (y3 : Vec F S256x8 .i32) (x6 x7 : Vec F S256x1664 .f32)
    (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare x6 ∗ owns (c : Thread nD τ) arg7 fullShare x7
        ∗ (iprop(owns (c : Thread nD τ) arg2 fullShare x0 ∗ owns (c : Thread nD τ) arg3 fullShare x1
            ∗ owns (c : Thread nD τ) arg4 fullShare y2 ∗ owns (c : Thread nD τ) arg5 fullShare y3
            ∗ owns (c : Thread nD τ) arg6 fullShare (carried i x6 (tileVals i x0 x1)) ∗ owns (c : Thread nD τ) arg7 fullShare (carried i x7 (tileCols i x0 x1))) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  simp only [k1_part1_eq_skeleton, k1_part2_eq_skeleton, k1_part3_eq_skeleton, k1_part4_eq_skeleton, k1_part5_eq_skeleton, k1_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2 hf3 hf4 hf5 hf6 hf7
  sl_exec (disch := first | sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [← load_queries arg2.view f2, ← load_docs arg3.view f3]
    exact read_carried arg6.view f6 i _
  iexists _; isplitr
  swap; · iexact H7
  ipureintro
  rw [← load_queries arg2.view f2, ← load_docs arg3.view f3]
  exact read_carried arg7.view f7 i _

set_option maxHeartbeats 2000000 in
/-- The last point of a row of tiles: the carried buffers take the tile's lanes, and the outputs the best of what they
    then hold. -/
theorem run_last (c : Dev nD) (E : Set ℕ) (i : grid1.Coords) (hc : k1_cond1 i = 1#1)
    (arg2 : Memref sig .tc .vmem S256x512 .f32) (harg2 : arg2.IsWhole) (arg3 : Memref sig .tc .vmem S4096x512 .f32) (harg3 : arg3.IsWhole)
    (arg4 : Memref sig .tc .vmem S256x8 .f32) (harg4 : arg4.IsWhole) (arg5 : Memref sig .tc .vmem S256x8 .i32) (harg5 : arg5.IsWhole)
    (arg6 : Memref sig .tc .vmem S256x1664 .f32) (harg6 : arg6.IsWhole) (arg7 : Memref sig .tc .vmem S256x1664 .f32) (harg7 : arg7.IsWhole)
    (x0 : Vec F S256x512 .f32) (x1 : Vec F S4096x512 .f32) (y2 : Vec F S256x8 .f32) (y3 : Vec F S256x8 .i32) (x6 x7 : Vec F S256x1664 .f32)
    (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare x6 ∗ owns (c : Thread nD τ) arg7 fullShare x7
        ∗ (iprop(owns (c : Thread nD τ) arg2 fullShare x0 ∗ owns (c : Thread nD τ) arg3 fullShare x1
            ∗ owns (c : Thread nD τ) arg4 fullShare (bestVals (carried i x6 (tileVals i x0 x1)))
            ∗ owns (c : Thread nD τ) arg5 fullShare (bestCols (carried i x6 (tileVals i x0 x1)) (carried i x7 (tileCols i x0 x1)))
            ∗ owns (c : Thread nD τ) arg6 fullShare (carried i x6 (tileVals i x0 x1)) ∗ owns (c : Thread nD τ) arg7 fullShare (carried i x7 (tileCols i x0 x1))) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  simp only [k1_part1_eq_skeleton, k1_part2_eq_skeleton, k1_part3_eq_skeleton, k1_part4_eq_skeleton, k1_part5_eq_skeleton, k1_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2 hf3 hf4 hf5 hf6 hf7
  sl_exec (disch := first | sl_exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [← load_queries arg2.view f2, ← load_docs arg3.view f3, ← read_carried arg6.view f6, ← load_carried arg6.view]
    exact View.read_writes_full arg4.view f4 inb_S256x8_S256x8_0_0 _ []
  isplitl [H5]
  · iexists _; isplitr
    swap; · iexact H5
    ipureintro
    rw [← load_queries arg2.view f2, ← load_docs arg3.view f3, ← read_carried arg6.view f6, ← load_carried arg6.view,
      ← read_carried arg7.view f7, ← load_carried arg7.view]
    exact View.read_writes_full arg5.view f5 inb_S256x8_S256x8_0_0 _ []
  isplitl [H6]
  · iexists _; isplitr
    swap; · iexact H6
    ipureintro
    rw [← load_queries arg2.view f2, ← load_docs arg3.view f3]
    exact read_carried arg6.view f6 i _
  iexists _; isplitr
  swap; · iexact H7
  ipureintro
  rw [← load_queries arg2.view f2, ← load_docs arg3.view f3]
  exact read_carried arg7.view f7 i _

end Cert.KernelIdeal.Hand

end
-- ==== Proof.KernelIdeal.TopRegion.lean ====
/-
  The second region: the scoring kernel over four query tiles by thirteen document tiles. Between two grid points the
  two carried buffers hold, at the lanes of the document tiles already done for the current query tile, what those tiles
  contributed; nothing is known of the other lanes. This module states that invariant, the region's proof data at any
  contents of the buffers at its entry, and the obligation of the body at every grid point.
-/
module

public import proofs.«01_k».proof.Proof.KernelIdeal.TopBody
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A point is the last of its row of document tiles when its number leaves 12 on division by 13. -/
theorem last_iff : ∀ t : Fin cfg1.N, k1_cond1 (grid1.coords t) = 1#1 ↔ t.val % 13 = 12 :=
  (by decide +kernel : ∀ t : Fin grid1.N, k1_cond1 (grid1.coords t) = 1#1 ↔ t.val % 13 = 12)
/-- The lanes a point stores at. -/
theorem lanes_eq : ∀ t : Fin cfg1.N, k1_off1 (grid1.coords t) = ![0, 128 * (t.val % 13)] :=
  (by decide +kernel : ∀ t : Fin grid1.N, k1_off1 (grid1.coords t) = ![0, 128 * (t.val % 13)])
theorem live_queries : ∀ t : Fin cfg1.N, cfg1.idle 0 (grid1.coords t) = false := fun _ => rfl
theorem live_docs : ∀ t : Fin cfg1.N, cfg1.idle 1 (grid1.coords t) = false := fun _ => rfl
theorem idle_vals (t : Fin cfg1.N) (h : ¬ k1_cond1 (grid1.coords t) = 1#1) : cfg1.idle 2 (grid1.coords t) = true := by
  show (!(k1_cond1 (grid1.coords t) == 1#1)) = true; simp [h]
theorem idle_cols (t : Fin cfg1.N) (h : ¬ k1_cond1 (grid1.coords t) = 1#1) : cfg1.idle 3 (grid1.coords t) = true := by
  show (!(k1_cond1 (grid1.coords t) == 1#1)) = true; simp [h]
theorem live_vals (t : Fin cfg1.N) (h : k1_cond1 (grid1.coords t) = 1#1) : cfg1.idle 2 (grid1.coords t) = false := by
  show (!(k1_cond1 (grid1.coords t) == 1#1)) = false; simp [h]
theorem live_cols (t : Fin cfg1.N) (h : k1_cond1 (grid1.coords t) = 1#1) : cfg1.idle 3 (grid1.coords t) = false := by
  show (!(k1_cond1 (grid1.coords t) == 1#1)) = false; simp [h]

/-- Point number `n`. -/
def pt (n : ℕ) : Fin cfg1.N := if h : n < cfg1.N then ⟨n, h⟩ else ⟨0, by rw [show cfg1.N = 52 from N_1]; decide⟩
theorem pt_val (t : Fin cfg1.N) : pt t.val = t := by unfold pt; rw [dif_pos t.isLt]

section Region
variable (V : (c : Dev nD) → (b : Ref sig .tc) → Buf (Elt F) ((c : Thread nD τ).loc b))

/-- The block of window `w`'s array that grid point `t` works on. -/
def topBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point `t` contributes to the two carried buffers. -/
def ptVals (c : Dev nD) (t : Fin cfg1.N) : FVec F S256x128 .f32 := tileVals (grid1.coords t) (topBlk V c 0 t) (topBlk V c 1 t)
def ptCols (c : Dev nD) (t : Fin cfg1.N) : FVec F S256x128 .f32 := tileCols (grid1.coords t) (topBlk V c 0 t) (topBlk V c 1 t)

/-- A place of a carried buffer within the lanes of its document tile. -/
def lane (y : S256x1664.Idx) : S256x128.Idx := ix2 (y 0) ⟨(y 1).val % 128, Nat.mod_lt _ (by decide)⟩

/-- The carried buffers once all thirteen document tiles of query tile `q` are done. -/
def rowVals (c : Dev nD) (q : ℕ) : Vec F S256x1664 .f32 := fun y => ptVals V c (pt (13 * q + (y 1).val / 128)) (lane y)
def rowCols (c : Dev nD) (q : ℕ) : Vec F S256x1664 .f32 := fun y => ptCols V c (pt (13 * q + (y 1).val / 128)) (lane y)

/-- Before point `n`: the lanes of the tiles done hold what those contributed. -/
def Done (c : Dev nD) (n : ℕ) (x6 x7 : Vec F S256x1664 .f32) : Prop :=
  ∀ y : S256x1664.Idx, (y 1).val < 128 * (n % 13) → x6 y = rowVals V c (n / 13) y ∧ x7 y = rowCols V c (n / 13) y

theorem done_start (c : Dev nD) (n : ℕ) (h : n % 13 = 0) (x6 x7 : Vec F S256x1664 .f32) : Done V c n x6 x7 := fun y hy => by
  rw [h] at hy; exact absurd hy (Nat.not_lt_zero _)

/-- A carried buffer after a point, at the lanes of the point's tile and at those before it. -/
theorem carried_new (t : Fin cfg1.N) (x : Vec F S256x1664 .f32) (w : FVec F S256x128 .f32) (y : S256x1664.Idx) (h : (y 1).val / 128 = t.val % 13) :
    carried (grid1.coords t) x w y = w (lane y) := by
  unfold carried
  rw [lanes_eq]
  have hm : ∀ a, (![0, 128 * (t.val % 13)] : Fin 2 → ℕ) a ≤ (y a).val
      ∧ (y a).val < (![0, 128 * (t.val % 13)] : Fin 2 → ℕ) a + S256x128.size a := fun a => by
    match a with
    | ⟨0, _⟩ => exact ⟨Nat.zero_le _, by have := (y 0).isLt; show (y 0).val < 0 + 256; exact (Nat.zero_add 256).symm ▸ this⟩
    | ⟨1, _⟩ =>
      have := Nat.div_add_mod (y 1).val 128
      have := Nat.mod_lt (y 1).val (show 0 < 128 by decide)
      exact ⟨show 128 * (t.val % 13) ≤ (y 1).val by omega, show (y 1).val < 128 * (t.val % 13) + 128 by omega⟩
  refine (dif_pos hm).trans (congrArg w (funext fun a => ?_))
  match a with
  | ⟨0, _⟩ => exact Fin.ext (show (y 0).val - 0 = (y 0).val from rfl)
  | ⟨1, _⟩ =>
    refine Fin.ext (show (y 1).val - 128 * (t.val % 13) = (y 1).val % 128 from ?_)
    have := Nat.div_add_mod (y 1).val 128
    omega
theorem carried_old (t : Fin cfg1.N) (x : Vec F S256x1664 .f32) (w : FVec F S256x128 .f32) (y : S256x1664.Idx) (h : (y 1).val < 128 * (t.val % 13)) :
    carried (grid1.coords t) x w y = x y := by
  unfold carried
  rw [lanes_eq]
  exact dif_neg fun hm => absurd (hm 1).1 (show ¬ 128 * (t.val % 13) ≤ (y 1).val by omega)

/-- A point's own tile joins the tiles done. -/
theorem carried_done (c : Dev nD) (t : Fin cfg1.N) (x6 x7 : Vec F S256x1664 .f32) (h : Done V c t.val x6 x7) (y : S256x1664.Idx)
    (hy : (y 1).val < 128 * (t.val % 13 + 1)) :
    carried (grid1.coords t) x6 (ptVals V c t) y = rowVals V c (t.val / 13) y
      ∧ carried (grid1.coords t) x7 (ptCols V c t) y = rowCols V c (t.val / 13) y := by
  by_cases hlt : (y 1).val < 128 * (t.val % 13)
  · rw [carried_old t x6 _ y hlt, carried_old t x7 _ y hlt]; exact h y hlt
  · have hq : (y 1).val / 128 = t.val % 13 := by omega
    rw [carried_new t x6 _ y hq, carried_new t x7 _ y hq]
    unfold rowVals rowCols
    rw [hq, Nat.div_add_mod, pt_val]
    exact ⟨rfl, rfl⟩

theorem done_step (c : Dev nD) (t : Fin cfg1.N) (x6 x7 : Vec F S256x1664 .f32) (h : Done V c t.val x6 x7) :
    Done V c (t.val + 1) (carried (grid1.coords t) x6 (ptVals V c t)) (carried (grid1.coords t) x7 (ptCols V c t)) := by
  by_cases h12 : t.val % 13 = 12
  · exact done_start V c _ (by omega) _ _
  · intro y hy
    rw [show (t.val + 1) % 13 = t.val % 13 + 1 by omega] at hy
    rw [show (t.val + 1) / 13 = t.val / 13 by omega]
    exact carried_done V c t x6 x7 h y hy

/-- At the last tile of a row the carried buffers are complete. -/
theorem done_full (c : Dev nD) (t : Fin cfg1.N) (h12 : t.val % 13 = 12) (x6 x7 : Vec F S256x1664 .f32) (h : Done V c t.val x6 x7) :
    carried (grid1.coords t) x6 (ptVals V c t) = rowVals V c (t.val / 13)
      ∧ carried (grid1.coords t) x7 (ptCols V c t) = rowCols V c (t.val / 13) :=
  have hy : ∀ y : S256x1664.Idx, (y 1).val < 128 * (t.val % 13 + 1) := fun y => by
    have : (y 1).val < 1664 := (y 1).isLt
    omega
  ⟨funext fun y => (carried_done V c t x6 x7 h y (hy y)).1, funext fun y => (carried_done V c t x6 x7 h y (hy y)).2⟩

/-- What rides from point to point: the other region's staging buffers and the generator register at anything, the two
    carried buffers as `Done` says. -/
def topPhi (c : Dev nD) (n : ℕ) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ ∃ r, prngReg c r)
    ∗ ∃ x6 : Vec F S256x1664 .f32, ∃ x7 : Vec F S256x1664 .f32, ⌜Done V c n x6 x7⌝
      ∗ owns (c : Thread nD τ) (Memref.whole cc1_scratch0) fullShare x6 ∗ owns (c : Thread nD τ) (Memref.whole cc1_scratch1) fullShare x7)

/-- The region's proof data. -/
def topDat (c : Dev nD) : Dat τ (Elt F) Unit ℕ (UR sig nD τ) ℕ cfg1 c where
  A w := V c (Pipeline.arrRef spec1 w)
  after w t := match w with
    | ⟨0, _⟩ => topBlk V c 0 t
    | ⟨1, _⟩ => topBlk V c 1 t
    | ⟨2, _⟩ => bestVals (rowVals V c (t.val / 13))
    | ⟨3, _⟩ => bestCols (rowVals V c (t.val / 13)) (rowCols V c (t.val / 13))
  Φ t := topPhi V c t.val
  q _ := fullShare
  owed _ := 0

theorem topDat_A (c : Dev nD) (w : Fin cfg1.W) : (topDat V c).A w = V c (Pipeline.arrRef spec1 w) := by dsimp only [topDat]
theorem topDat_after0 (c : Dev nD) (t : Fin cfg1.N) : (topDat V c).after 0 t = topBlk V c 0 t := by dsimp only [topDat]
theorem topDat_after1 (c : Dev nD) (t : Fin cfg1.N) : (topDat V c).after 1 t = topBlk V c 1 t := by dsimp only [topDat]
theorem topDat_after2 (c : Dev nD) (t : Fin cfg1.N) : (topDat V c).after 2 t = bestVals (rowVals V c (t.val / 13)) := by dsimp only [topDat]
theorem topDat_after3 (c : Dev nD) (t : Fin cfg1.N) :
    (topDat V c).after 3 t = bestCols (rowVals V c (t.val / 13)) (rowCols V c (t.val / 13)) := by dsimp only [topDat]
theorem topDat_Φ (c : Dev nD) (t : Fin (cfg1.N + 1)) : (topDat V c).Φ t = topPhi V c t.val := by dsimp only [topDat]

/-- Before the body runs, an input's staging buffer holds its block. -/
theorem topDat_before0 (c : Dev nD) (t : Fin cfg1.N) (d) : (topDat V c).before 0 t d = topBlk V c 0 t :=
  ((topDat V c).before_in_eq_fetched 0 rfl (fun _ => rfl) (fun _ _ _ => rfl)
    (fun t => by rw [topDat_after0]; unfold Dat.blockOf topBlk; rw [topDat_A]) t d).trans
    (by unfold Dat.fetched Dat.blockOf topBlk; rw [topDat_A]; rfl)
theorem topDat_before1 (c : Dev nD) (t : Fin cfg1.N) (d) : (topDat V c).before 1 t d = topBlk V c 1 t :=
  ((topDat V c).before_in_eq_fetched 1 rfl (fun _ => rfl) (fun _ _ _ => rfl)
    (fun t => by rw [topDat_after1]; unfold Dat.blockOf topBlk; rw [topDat_A]) t d).trans
    (by unfold Dat.fetched Dat.blockOf topBlk; rw [topDat_A]; rfl)

/-- What the body is called with at point `t`, and what it returns. -/
def topPre (c : Dev nD) (t : Fin cfg1.N) : sProp 𝕄 :=
  iprop((topDat V c).Φ t.castSucc ∗ (topDat V c).owesAt () t.castSucc
    ∗ (∃ d, owns (c : Thread nD τ) (st1_0 t) fullShare ((topDat V c).before 0 t d))
    ∗ (∃ d, owns (c : Thread nD τ) (st1_1 t) fullShare ((topDat V c).before 1 t d))
    ∗ (∃ d, owns (c : Thread nD τ) (st1_2 t) fullShare ((topDat V c).before 2 t d))
    ∗ (∃ d, owns (c : Thread nD τ) (st1_3 t) fullShare ((topDat V c).before 3 t d)))
def topPost (c : Dev nD) (t : Fin cfg1.N) : sProp 𝕄 :=
  iprop((topDat V c).Φ t.succ ∗ (topDat V c).owesAt () t.succ
    ∗ (topDat V c).leavesExact 0 t ∗ (topDat V c).leavesExact 1 t ∗ (topDat V c).leavesExact 2 t ∗ (topDat V c).leavesExact 3 t)

set_option maxHeartbeats 2000000 in
theorem topBody (c : Dev nD) (t : Fin cfg1.N) :
    topPre V c t ⊢ wp frame (wpE (defs₀ (F := F)) Variants.none c none) Set.univ (bodyAt1 t) (fun _ => topPost V c t) := by
  unfold topPre topPost bodyAt1
  simp only [topDat_before0, topDat_before1]
  rw [show (topDat V c).owesAt () t.succ = (topDat V c).owesAt () t.castSucc from rfl, topDat_Φ, topDat_Φ,
    show t.castSucc.val = t.val from rfl, show t.succ.val = t.val + 1 from rfl]
  rw [show (topDat V c).leavesExact 0 t = owns (c : Thread nD τ) (st1_0 t) fullShare ((topDat V c).after 0 t) from by
      unfold Dat.leavesExact; rw [live_queries t], topDat_after0,
    show (topDat V c).leavesExact 1 t = owns (c : Thread nD τ) (st1_1 t) fullShare ((topDat V c).after 1 t) from by
      unfold Dat.leavesExact; rw [live_docs t], topDat_after1]
  unfold topPhi
  by_cases h12 : t.val % 13 = 12
  · have hc := (last_iff t).mpr h12
    rw [show (topDat V c).leavesExact 2 t = owns (c : Thread nD τ) (st1_2 t) fullShare ((topDat V c).after 2 t) from by
        unfold Dat.leavesExact; rw [live_vals t hc], topDat_after2,
      show (topDat V c).leavesExact 3 t = owns (c : Thread nD τ) (st1_3 t) fullShare ((topDat V c).after 3 t) from by
        unfold Dat.leavesExact; rw [live_cols t hc], topDat_after3]
    iintro ⟨⟨HR, ⟨%x6, %x7, %hd, H6, H7⟩⟩, Ho, ⟨%d0, H0⟩, ⟨%d1, H1⟩, ⟨%d2, H2⟩, ⟨%d3, H3⟩⟩
    have hf := done_full V c t h12 x6 x7 hd
    rw [← hf.1, ← hf.2]
    iapply (run_last c Set.univ (grid1.coords t) hc _ _ _ _ _ _ _ _ _ _ _ _ (topBlk V c 0 t) (topBlk V c 1 t) _ _ x6 x7 _)
    isplitl [H0]; · iexact H0
    isplitl [H1]; · iexact H1
    isplitl [H2]; · iexact H2
    isplitl [H3]; · iexact H3
    isplitl [H6]; · iexact H6
    isplitl [H7]; · iexact H7
    iintro ⟨H0, H1, H2, H3, H6, H7⟩
    isplitl [HR H6 H7]
    · isplitl [HR]; · iexact HR
      iexists _, _
      isplitr; · ipureintro; exact done_step V c t x6 x7 hd
      isplitl [H6]; · iexact H6
      iexact H7
    isplitl [Ho]; · iexact Ho
    isplitl [H0]; · iexact H0
    isplitl [H1]; · iexact H1
    isplitl [H2]; · iexact H2
    iexact H3
  · have hc := fun h => h12 ((last_iff t).mp h)
    rw [Dat.leavesExact_idle (topDat V c) 2 t (idle_vals t hc) (Bool.eq_false_iff.mpr fun h => h12 ((flush1_2 t).mp h)),
      Dat.leavesExact_idle (topDat V c) 3 t (idle_cols t hc) (Bool.eq_false_iff.mpr fun h => h12 ((flush1_3 t).mp h))]
    iintro ⟨⟨HR, ⟨%x6, %x7, %hd, H6, H7⟩⟩, Ho, ⟨%d0, H0⟩, ⟨%d1, H1⟩, ⟨%d2, H2⟩, ⟨%d3, H3⟩⟩
    iapply (run_inner c Set.univ (grid1.coords t) hc _ _ _ _ _ _ _ _ _ _ _ _ (topBlk V c 0 t) (topBlk V c 1 t) _ _ x6 x7 _)
    isplitl [H0]; · iexact H0
    isplitl [H1]; · iexact H1
    isplitl [H2]; · iexact H2
    isplitl [H3]; · iexact H3
    isplitl [H6]; · iexact H6
    isplitl [H7]; · iexact H7
    iintro ⟨H0, H1, H2, H3, H6, H7⟩
    isplitl [HR H6 H7]
    · isplitl [HR]; · iexact HR
      iexists _, _
      isplitr; · ipureintro; exact done_step V c t x6 x7 hd
      isplitl [H6]; · iexact H6
      iexact H7
    isplitl [Ho]; · iexact Ho
    isplitl [H0]; · iexact H0
    isplitl [H1]; · iexact H1
    isplitl [H2]; · iexists _; iexact H2
    iexists _; iexact H3

theorem topRow (t : Fin cfg1.N) : defs₀ (F := F) .tc cfg1.body (cfg1.bodyArgs t (cfg1.slots t)) = bodyAt1 t := by
  unfold defs₀; rw [Defs.onTc_tc]

/-- The body meets its obligation at every point. -/
theorem topObligation (c : Dev nD) : BodyObligation (topDat (F := F) V c) (defs₀ (F := F)) Variants.none () Set.univ := fun t => by
  rw [bigSep_W1, bigSep_W1, topRow]
  exact triple_restated (topBody V c t) rfl .rfl fun _ => .rfl

/-- The invariant at the region's two ends: the scoped buffers at anything. -/
theorem topPhi_in (c : Dev nD) : Pipeline.ΦA spec1 c ⊢ (topDat V c).Φ 0 := by
  rw [topDat_Φ]
  unfold Pipeline.ΦA topPhi
  rw [scopedRest1_eq]
  simp only [owns_whole]
  iintro ⟨⟨G0, G1, G2, G3, G4, G5, ⟨%f6, G6⟩, ⟨%f7, G7⟩⟩, Hp⟩
  isplitl [G0 G1 G2 G3 G4 G5 Hp]
  · isplitl [G0]; · iexact G0
    isplitl [G1]; · iexact G1
    isplitl [G2]; · iexact G2
    isplitl [G3]; · iexact G3
    isplitl [G4]; · iexact G4
    isplitl [G5]; · iexact G5
    iexact Hp
  iexists f6, f7
  isplitr; · ipureintro; exact done_start V c _ rfl _ _
  isplitl [G6]; · iexact G6
  iexact G7

theorem topPhi_out (c : Dev nD) : (topDat V c).Φ (Fin.last cfg1.N) ⊢ Pipeline.ΦA spec1 c := by
  rw [topDat_Φ]
  unfold Pipeline.ΦA topPhi
  rw [scopedRest1_eq]
  simp only [owns_whole]
  iintro ⟨⟨G0, G1, G2, G3, G4, G5, Hp⟩, ⟨%f6, %f7, -, G6, G7⟩⟩
  isplitl [G0 G1 G2 G3 G4 G5 G6 G7]
  · isplitl [G0]; · iexact G0
    isplitl [G1]; · iexact G1
    isplitl [G2]; · iexact G2
    isplitl [G3]; · iexact G3
    isplitl [G4]; · iexact G4
    isplitl [G5]; · iexact G5
    isplitl [G6]; · iexists f6; iexact G6
    iexists f7; iexact G7
  iexact Hp

end Region

end Cert.KernelIdeal.Hand

end
-- ==== Proof.KernelIdeal.Run.lean ====
/-
  The run of the whole program: the buffers' contents at each boundary between its four stretches (two stretches of host
  operations, each followed by a region), the two regions over those contents, and the launch. The result: every
  execution ends, with every buffer of a core outside the regions' own at the last boundary's contents, and every
  semaphore counter at zero.
-/
module

public import proofs.«01_k».proof.Proof.Gen.KernelIdeal.Regions
public import proofs.«01_k».proof.Proof.KernelIdeal.LinearRegion
public import proofs.«01_k».proof.Proof.KernelIdeal.TopRegion
public import Idealize.ShloMosaic.Lib.Pipeline.RegionsLoop
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev args : List (Ref sig .tc) := [main_arg0, main_arg1, main_arg2, main_arg3]

theorem args_first : ∀ a ∈ args, a ∉ hostOps0_W := by decide +kernel
theorem args_second : ∀ a ∈ args, a ∉ hostOps1_W := by decide +kernel
theorem args_linear : ∀ a ∈ args, ∀ w : Fin cfg0.W, Pipeline.arrRef spec0 w = a → (cfg0.win w).isOut = false := by decide +kernel
theorem args_top : ∀ a ∈ args, ∀ w : Fin cfg1.W, Pipeline.arrRef spec1 w = a → (cfg1.win w).isOut = false := by decide +kernel

/-! ## The contents at each boundary -/

/-- At the launch. -/
abbrev B0 (c : Dev nD) : Valuation τ sig (Elt F) := fun b => (s₀ m ρ).mem (c, b)
/-- After the first stretch of host operations. -/
abbrev B1 (c : Dev nD) : Valuation τ sig (Elt F) := StableHlo.after hostOps0 (B0 m ρ c)
abbrev E1 (c : Dev nD) (b : Ref sig .tc) : Buf (Elt F) ((c : Thread nD τ).loc b) := B1 m ρ c b
/-- After the projection. -/
def B2 (c : Dev nD) : Valuation τ sig (Elt F) := Pipeline.withArrays spec0 c (B1 m ρ c) fun w => (linDat (E1 m ρ) c).arrAt w cfg0.N
abbrev E2 (c : Dev nD) (b : Ref sig .tc) : Buf (Elt F) ((c : Thread nD τ).loc b) := B2 m ρ c b
/-- After the second stretch of host operations. -/
abbrev B3 (c : Dev nD) : Valuation τ sig (Elt F) := StableHlo.after hostOps1 (B2 m ρ c)
abbrev E3 (c : Dev nD) (b : Ref sig .tc) : Buf (Elt F) ((c : Thread nD τ).loc b) := B3 m ρ c b
/-- At the end. -/
def B4 (c : Dev nD) : Valuation τ sig (Elt F) := Pipeline.withArrays spec1 c (B3 m ρ c) fun w => (topDat (E3 m ρ) c).arrAt w cfg1.N
abbrev E4 (c : Dev nD) (b : Ref sig .tc) : Buf (Elt F) ((c : Thread nD τ).loc b) := B4 m ρ c b

theorem B2_array (c : Dev nD) (w : Fin cfg0.W) : B2 m ρ c (Proc.devRef .tc (Pipeline.arrRef spec0 w)) = (linDat (E1 m ρ) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
theorem B4_array (c : Dev nD) (w : Fin cfg1.W) : B4 m ρ c (Proc.devRef .tc (Pipeline.arrRef spec1 w)) = (topDat (E3 m ρ) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb

/-- A buffer that is no output of the region passes through it. -/
theorem B2_through (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    exact (B2_array m ρ c w).trans (((linDat (E1 m ρ) c).arrAt_in w (h w rfl) _).trans (linDat_A (E1 m ρ) c w))
  · exact B2_other m ρ c r fun w e => hw ⟨w, e⟩
theorem B4_through (c : Dev nD) (r : Ref sig .tc) (h : ∀ w : Fin cfg1.W, Pipeline.arrRef spec1 w = r → (cfg1.win w).isOut = false) :
    B4 m ρ c (Proc.devRef .tc r) = B3 m ρ c (Proc.devRef .tc r) := by
  by_cases hw : ∃ w : Fin cfg1.W, Pipeline.arrRef spec1 w = r
  · obtain ⟨w, rfl⟩ := hw
    exact (B4_array m ρ c w).trans (((topDat (E3 m ρ) c).arrAt_in w (h w rfl) _).trans (topDat_A (E3 m ρ) c w))
  · exact B4_other m ρ c r fun w e => hw ⟨w, e⟩

/-- The arguments at each boundary. -/
theorem B1_args (c : Dev nD) (a : Ref sig .tc) (ha : a ∈ args) : B1 m ρ c (Proc.devRef .tc a) = m ((c : Thread nD τ).loc a) :=
  StableHlo.after_of_writes_sub hostOps0 _ hostOps0_writes (args_first a ha)
theorem B2_args (c : Dev nD) (a : Ref sig .tc) (ha : a ∈ args) : B2 m ρ c (Proc.devRef .tc a) = m ((c : Thread nD τ).loc a) :=
  (B2_through m ρ c a (args_linear a ha)).trans (B1_args m ρ c a ha)
theorem B3_args (c : Dev nD) (a : Ref sig .tc) (ha : a ∈ args) : B3 m ρ c (Proc.devRef .tc a) = m ((c : Thread nD τ).loc a) :=
  (StableHlo.after_of_writes_sub hostOps1 _ hostOps1_writes (args_second a ha)).trans (B2_args m ρ c a ha)
theorem B4_args (c : Dev nD) (a : Ref sig .tc) (ha : a ∈ args) : B4 m ρ c (Proc.devRef .tc a) = m ((c : Thread nD τ).loc a) :=
  (B4_through m ρ c a (args_top a ha)).trans (B3_args m ρ c a ha)

/-- The regions' exits: their arrays at what the pipelines leave, the others as entered. -/
theorem exit_array0 (c : Dev nD) (w : Fin cfg0.W) : (linDat (E1 m ρ) c).arrAt w cfg0.N = E2 m ρ c (Pipeline.arrRef spec0 w) := (B2_array m ρ c w).symm
theorem exit_other0 (c : Dev nD) : ∀ b, b ∉ Finset.univ.image (Pipeline.arrRef spec0) → E2 m ρ c b = E1 m ρ c b :=
  fun b hb => B2_other m ρ c b fun w e => hb (Finset.mem_image.mpr ⟨w, Finset.mem_univ _, e⟩)
theorem exit_array1 (c : Dev nD) (w : Fin cfg1.W) : (topDat (E3 m ρ) c).arrAt w cfg1.N = E4 m ρ c (Pipeline.arrRef spec1 w) := (B4_array m ρ c w).symm
theorem exit_other1 (c : Dev nD) : ∀ b, b ∉ Finset.univ.image (Pipeline.arrRef spec1) → E4 m ρ c b = E3 m ρ c b :=
  fun b hb => B4_other m ρ c b fun w e => hb (Finset.mem_image.mpr ⟨w, Finset.mem_univ _, e⟩)

/-! ## The segments -/

abbrev noTables : (p : Fin 2) → (pcfgs (F := F) p).Adm := fun p => (cfgs p).toPCfg_adm

/-- Each region's proof data, at its entry contents. -/
def dats : (p : Fin 2) → (c : Dev nD) → Dat τ (Elt F) Unit ℕ (UR sig nD τ) ℕ (Pipeline.pin (pcfgs (F := F)) noTables p) c
  | ⟨0, _⟩ => fun c => linDat (E1 m ρ) c
  | ⟨1, _⟩ => fun c => topDat (E3 m ρ) c

abbrev noLevels : GSem nD τ sig → Finset Unit := fun _ => ∅
abbrev level : GSem nD τ sig → Unit → ℕ := fun _ _ => 0

/-- Beside the buffers: the generator register at some state, and nothing owed. -/
abbrev beside (c : Dev nD) : sProp 𝕄 := iprop((∃ r, prngReg c r) ∗ ∃ W, owes (c : Thread nD τ) (0 : CellTallies nD τ sig Unit) W)

/-- A stretch of host operations from contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem held_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A core's state at the end. -/
abbrev ending (c : Dev nD) : sProp 𝕄 := iprop(StableHlo.held (c : Thread nD τ) (Pipeline.ucRefs τ sig) (B4 m ρ c) ∗ ∃ r, prngReg c r)

set_option backward.isDefEq.respectTransparency.types false in
/-- The projection, from the first boundary's contents to the second's. -/
def linSeg : Pipeline.RegionSeg (pcfgs (F := F)) noTables (dats m ρ) () defs₀ Variants.none noLevels level 0 where
  win := launch0.win.to₀
  block_pos := launch0.block_pos
  stage_whole := launch0.stage_whole
  K := PEmpty
  osem k := k.elim
  ho := Pipeline.OwnSemFacts.none _
  hbody c := (linObligation (E1 m ρ) c).loose
  hwaits := Pipeline.hwaits_of_owed_zero _ _ _ _ noLevels level 0 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (dats m ρ) launch0.win launch0.arr_whole c
      ((dats m ρ 0 c).share_full fun _ => rfl) (E1 m ρ c) (linDat_A (E1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (dats m ρ) ((dats m ρ 0 c).share_full fun _ => rfl)
      (E1 m ρ c) (E2 m ρ c) ((dats m ρ 0 c).arrAt · cfg0.N) (exit_array0 m ρ c) (exit_other0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scoring region, from the third boundary's contents to the end's. -/
def topSeg : Pipeline.RegionSeg (pcfgs (F := F)) noTables (dats m ρ) () defs₀ Variants.none noLevels level 1 where
  win := launch1.win.to₀
  block_pos := launch1.block_pos
  stage_whole := launch1.stage_whole
  K := PEmpty
  osem k := k.elim
  ho := Pipeline.OwnSemFacts.none _
  hbody c := (topObligation (E3 m ρ) c).loose
  hwaits := Pipeline.hwaits_of_owed_zero _ _ _ _ noLevels level 1 fun _ _ => rfl
  pre c := iprop(StableHlo.held (c : Thread nD τ) (Pipeline.ucRefs τ sig) (B3 m ρ c) ∗ beside c)
  post c := iprop(ending m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (dats m ρ) launch1.win launch1.arr_whole c
      ((dats m ρ 1 c).share_full fun _ => rfl) (E3 m ρ c) (topDat_A (E3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := topPhi_in (E3 m ρ) c
    unfold Pipeline.ΦA at h
    iintro ⟨Hp, -, Hr⟩
    iapply (show _ ⊢ (dats m ρ 1 c).Φ 0 from h)
    isplitl [Hr]; · iexact Hr
    iexact Hp
  hout c := by
    have h := topPhi_out (E3 m ρ) c
    rw [Pipeline.ownSems0_none]
    unfold Pipeline.ΦA at h
    iintro HΦ
    ihave H := (show (dats m ρ 1 c).Φ (Fin.last _) ⊢ _ from h) $$ HΦ
    icases H with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (dats m ρ) ((dats m ρ 1 c).share_full fun _ => rfl)
      (E3 m ρ c) (E4 m ρ c) ((dats m ρ 1 c).arrAt · cfg1.N) (exit_array1 m ρ c) (exit_other1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four stretches in order. -/
abbrev stretches : List (Pipeline.Seg (pcfgs (F := F)) noTables (dats m ρ) () defs₀ Variants.none noLevels level) :=
  [ .host (stretch hostOps0 hostOps0_sub hostOps0_fresh (B0 m ρ)), .region (linSeg m ρ),
    .host (stretch hostOps1 hostOps1_sub hostOps1_fresh (B2 m ρ)), .region (topSeg m ρ) ]

theorem main_stretches (c : Dev nD) : main (F := F) c = Pipeline.Seg.run (stretches m ρ) := (main_chain c).trans (by chain_rfl)

theorem sems_scoped : ∀ sm : SemLoc sig, sm.isScoped .tc = true := by decide

set_option backward.isDefEq.respectTransparency.types false in
/-- The run: every execution ends with every core's buffers at the last boundary's contents, the counters at zero. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = B4 m ρ c b) ∧ r.2.sem = fun _ => 0) :=
  Pipeline.θ_run_regions_kit_sems (pcfgs (F := F)) noTables (dats m ρ) () cellOf_inj emb₁ defs₀ Variants.none noLevels level m ρ main (stretches m ρ)
    (fun c Q => by rw [main_stretches m ρ c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := ending m ρ)
    (hch := ⟨fun _ => .rfl, fun _ => .rfl, fun _ => .rfl, fun _ => .rfl, fun _ => .rfl⟩)
    (hinit := by
      refine Pipeline.initEach noLevels level fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h hz => ⟨h, funext fun g => hz g (.inr (sems_scoped g.2))⟩)

/-- The arguments end as launched, every semaphore counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (held_mem main_arg0 (by decide))).trans (B4_args m ρ c main_arg0 (by decide)),
     (h.1 c _ (held_mem main_arg1 (by decide))).trans (B4_args m ρ c main_arg1 (by decide)),
     (h.1 c _ (held_mem main_arg2 (by decide))).trans (B4_args m ρ c main_arg2 (by decide)),
     (h.1 c _ (held_mem main_arg3 (by decide))).trans (B4_args m ρ c main_arg3 (by decide))⟩, h.2⟩) (run_all m ρ)

/-- The two results are what the scoring region leaves in its output arrays; the arguments end as launched. -/
theorem run_results : θ_run defs (onTc (τ := τ) (main (F := F))) ⟨m, fun _ => 0, ρ⟩ (fun r => ∀ c : Dev nD,
      r.2.mem ((c.tc : Thread nD τ).loc main_v0_0) = (topDat (E3 m ρ) c).arrAt 2 cfg1.N
      ∧ r.2.mem ((c.tc : Thread nD τ).loc main_v0_1) = (topDat (E3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h.1 c _ (held_mem main_v0_0 (by decide))).trans (B4_array m ρ c 2),
     (h.1 c _ (held_mem main_v0_1 (by decide))).trans (B4_array m ρ c 3),
     (h.1 c _ (held_mem main_arg0 (by decide))).trans (B4_args m ρ c main_arg0 (by decide)),
     (h.1 c _ (held_mem main_arg1 (by decide))).trans (B4_args m ρ c main_arg1 (by decide)),
     (h.1 c _ (held_mem main_arg2 (by decide))).trans (B4_args m ρ c main_arg2 (by decide)),
     (h.1 c _ (held_mem main_arg3 (by decide))).trans (B4_args m ρ c main_arg3 (by decide))⟩) (run_all m ρ)

end Cert.KernelIdeal.Hand

end
-- ==== Proof.Frames.lean ====
/-
  The three frames: the kernel on its words, its reading over the extended reals, and the reference over the extended
  reals each run to the end with their arguments as launched and every semaphore counter at zero.
-/
module

public import proofs.«01_k».proof.Defs
public import proofs.«01_k».proof.Proof.Kernel.Run
public import proofs.«01_k».proof.Proof.KernelIdeal.Run
public import proofs.«01_k».proof.Proof.Gen.ReferenceIdeal.Run

@[expose] public section

noncomputable section

namespace Cert.Proof

open Idealize.ShloMosaic Idealize.SL.Sem

theorem frame_kernel : Cert.quiescent_Kernel := fun m ρ _ => Cert.Kernel.Hand.quiet m ρ

theorem frame_ideal : Cert.quiescent_KernelIdeal := fun m ρ _ => Cert.KernelIdeal.Hand.quiet m ρ

/-- The reference declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

end Cert.Proof

end
-- ==== Proof.Select.lean ====
/-
  Selecting the best entries of a row in rounds. A round takes the greatest entry, at the first position that holds it,
  and strikes it out by putting −∞ in its place. As long as enough entries lie above −∞, the positions taken are the
  first ones of the row sorted by value, greatest first, equal values by position. Nothing here mentions the program.
-/
module

public import Idealize.ShloMosaic.Lib.SortPrefix
public import Mathlib.Data.EReal.Basic
public import Mathlib.Data.Fintype.Lattice

@[expose] public section

namespace Cert.Select

variable {n : ℕ}

/-- Position `a` comes before position `b`: a greater value, or the same value at a smaller position. -/
def Before (s : Fin n → EReal) (a b : Fin n) : Prop := s b < s a ∨ (s a = s b ∧ a < b)

theorem Before.trans {s : Fin n → EReal} {a b c : Fin n} (h : Before s a b) (h' : Before s b c) : Before s a c := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem Before.not {s : Fin n → EReal} {a b : Fin n} (h : Before s a b) : ¬ Before s b a := by
  rintro (h' | ⟨e, h'⟩) <;> rcases h with h | ⟨_, h⟩
  · exact lt_asymm h h'
  · rename_i e; exact absurd e h'.ne
  · exact absurd e h.ne
  · exact lt_asymm h h'

theorem Before.ne {s : Fin n → EReal} {a b : Fin n} (h : Before s a b) : a ≠ b := fun e => by
  subst e; exact h.not h

/-- The position a round takes: a greatest value, at the first position that holds it. -/
structure First (s : Fin n → EReal) (p : Fin n) : Prop where
  le : ∀ j, s j ≤ s p
  first : ∀ j, s j = s p → p ≤ j

theorem exists_first (s : Fin n → EReal) (hn : 0 < n) : ∃ p, First s p := by
  haveI : Nonempty (Fin n) := ⟨⟨0, hn⟩⟩
  obtain ⟨m, hm⟩ := Finite.exists_max s
  have hex : ∃ k : ℕ, ∃ h : k < n, s ⟨k, h⟩ = s m := ⟨m.val, m.isLt, rfl⟩
  classical
  obtain ⟨h, he⟩ := Nat.find_spec hex
  exact ⟨⟨Nat.find hex, h⟩, fun j => (hm j).trans he.ge, fun j hj => Nat.find_min' hex ⟨j.isLt, hj.trans he⟩⟩

theorem First.unique {s : Fin n → EReal} {p q : Fin n} (hp : First s p) (hq : First s q) : p = q :=
  le_antisymm (hp.first q (le_antisymm (hp.le q) (hq.le p))) (hq.first p (le_antisymm (hq.le p) (hp.le q)))

/-- The position the next round takes. -/
noncomputable def pick [NeZero n] (s : Fin n → EReal) : Fin n := (exists_first s (Nat.pos_of_ne_zero (NeZero.ne n))).choose
theorem pick_first [NeZero n] (s : Fin n → EReal) : First s (pick s) := (exists_first s (Nat.pos_of_ne_zero (NeZero.ne n))).choose_spec

/-- The row after `k` rounds. -/
noncomputable def rest [NeZero n] (s : Fin n → EReal) : ℕ → Fin n → EReal
  | 0 => s
  | k + 1 => Function.update (rest s k) (pick (rest s k)) ⊥

/-- The position round `k` takes. -/
noncomputable def taken [NeZero n] (s : Fin n → EReal) (k : ℕ) : Fin n := pick (rest s k)

theorem rest_succ [NeZero n] (s : Fin n → EReal) (k : ℕ) : rest s (k + 1) = Function.update (rest s k) (taken s k) ⊥ := rfl

theorem rest_taken [NeZero n] (s : Fin n → EReal) (k : ℕ) {i : ℕ} (h : i < k) : rest s k (taken s i) = ⊥ := by
  induction k with
  | zero => exact absurd h (Nat.not_lt_zero _)
  | succ k ih =>
    rw [rest_succ]
    by_cases e : taken s i = taken s k
    · rw [e, Function.update_self]
    · rw [Function.update_of_ne e]
      exact ih (lt_of_le_of_ne (Nat.lt_succ_iff.mp h) fun hk => e (hk ▸ rfl))

theorem rest_other [NeZero n] (s : Fin n → EReal) (k : ℕ) (q : Fin n) (h : ∀ i < k, taken s i ≠ q) : rest s k q = s q := by
  induction k with
  | zero => rfl
  | succ k ih =>
    rw [rest_succ, Function.update_of_ne (h k (Nat.lt_succ_self k)).symm]
    exact ih fun i hi => h i (hi.trans (Nat.lt_succ_self k))

section Rounds
variable [NeZero n] (s : Fin n → EReal) {K : ℕ} (e : Fin K → Fin n) (he : Function.Injective e) (hs : ∀ i, ⊥ < s (e i))
include he hs

/-- A round takes an entry above −∞ while more entries than rounds lie above −∞. -/
theorem taken_pos (k : ℕ) (hk : k < K) : ⊥ < rest s k (taken s k) := by
  classical
  by_contra h
  have hall : ∀ i : Fin K, ∃ a : Fin k, taken s a = e i := fun i => by
    by_contra hne
    push Not at hne
    have h1 := rest_other s k (e i) fun a ha => hne ⟨a, ha⟩
    have h2 := (pick_first (rest s k)).le (e i)
    rw [h1] at h2
    exact h (lt_of_lt_of_le (hs i) h2)
  choose f hf using hall
  have hfi : Function.Injective f := fun a b hab => he (by rw [← hf a, ← hf b, hab])
  have := Fintype.card_le_of_injective f hfi
  simp only [Fintype.card_fin] at this
  omega

theorem taken_ne (k : ℕ) (hk : k < K) (i : ℕ) (hi : i < k) : taken s i ≠ taken s k := fun hc => by
  have h := taken_pos s e he hs k hk
  rw [← hc, rest_taken s k hi] at h
  exact lt_irrefl _ h

theorem taken_inj (i j : ℕ) (hi : i < K) (hj : j < K) (h : taken s i = taken s j) : i = j := by
  rcases lt_trichotomy i j with hl | hl | hl
  · exact absurd h (taken_ne s e he hs j hj i hl)
  · exact hl
  · exact absurd h.symm (taken_ne s e he hs i hi j hl)

/-- What a round reads at its position is the row's own entry, which lies above −∞. -/
theorem rest_at (k : ℕ) (hk : k < K) : rest s k (taken s k) = s (taken s k) :=
  rest_other s k _ fun i hi => taken_ne s e he hs k hk i hi

theorem taken_above (k : ℕ) (hk : k < K) : ⊥ < s (taken s k) := rest_at s e he hs k hk ▸ taken_pos s e he hs k hk

/-- A position no earlier round takes comes after round `k`'s, unless it is that one. -/
theorem before_of_not_taken (k : ℕ) (hk : k < K) (q : Fin n) (h : ∀ i ≤ k, taken s i ≠ q) : Before s (taken s k) q := by
  have h1 := rest_other s k q fun i hi => h i hi.le
  have h2 := rest_at s e he hs k hk
  have hle := (pick_first (rest s k)).le q
  have hfi := (pick_first (rest s k)).first q
  rw [h1, show pick (rest s k) = taken s k from rfl, h2] at hle hfi
  rcases hle.lt_or_eq with hl | heq
  · exact .inl hl
  · exact .inr ⟨heq.symm, lt_of_le_of_ne (hfi heq) (h k le_rfl)⟩

theorem taken_before (i j : ℕ) (hij : i < j) (hj : j < K) : Before s (taken s i) (taken s j) :=
  before_of_not_taken s e he hs i (hij.trans hj) _ fun a ha hc =>
    taken_ne s e he hs j hj a (lt_of_le_of_lt ha hij) hc

end Rounds

/-! ## A round as two reductions and a mask

  A round is computed with the greatest entry, and the least of the labels at the positions that hold it. The labels grow
  along the row and stay below a bound, which is the label of every other position. -/

theorem fold_max_eq [NeZero n] (s : Fin n → EReal) : Finset.univ.fold max ⊥ s = s (pick s) :=
  le_antisymm ((Finset.fold_max_le _).mpr ⟨bot_le, fun j _ => (pick_first s).le j⟩) ((Finset.le_fold_max _).mpr (.inr ⟨_, Finset.mem_univ _, le_rfl⟩))

theorem fold_min_eq [NeZero n] (s G : Fin n → EReal) (B : EReal) (hG : ∀ a b, a ≤ b → G a ≤ G b) (hB : ∀ a, G a ≤ B) :
    Finset.univ.fold min ⊤ (fun j => if s j = s (pick s) then G j else B) = G (pick s) := by
  refine le_antisymm ((Finset.fold_min_le _).mpr (.inr ⟨pick s, Finset.mem_univ _, by rw [if_pos rfl]⟩))
    ((Finset.le_fold_min _).mpr ⟨le_top, fun j _ => ?_⟩)
  by_cases h : s j = s (pick s)
  · rw [if_pos h]; exact hG _ _ ((pick_first s).first j h)
  · rw [if_neg h]; exact hB _

theorem fold_min_at (G C : Fin n → EReal) (B : EReal) (p : Fin n) (hG : ∀ a b, G a = G b → a = b) (hB : C p ≤ B) :
    Finset.univ.fold min ⊤ (fun j => if G j = G p then C j else B) = C p := by
  refine le_antisymm ((Finset.fold_min_le _).mpr (.inr ⟨p, Finset.mem_univ _, by rw [if_pos rfl]⟩))
    ((Finset.le_fold_min _).mpr ⟨le_top, fun j _ => ?_⟩)
  by_cases h : G j = G p
  · rw [if_pos h, hG _ _ h]
  · rw [if_neg h]; exact hB

theorem cut_eq (s G : Fin n → EReal) (p : Fin n) (hG : ∀ a b, G a = G b → a = b) :
    (fun j => if G j = G p then ⊥ else s j) = Function.update s p ⊥ := by
  funext j
  by_cases h : j = p
  · subst h; rw [if_pos rfl, Function.update_self]
  · rw [if_neg fun e => h (hG _ _ e), Function.update_of_ne h]

/-! ## The sorted row -/

/-- `Before` as a test. -/
noncomputable def beforeB (s : Fin n → EReal) (a b : Fin n) : Bool := decide (s b < s a) || (decide (s a = s b) && decide (a < b))

theorem beforeB_iff (s : Fin n → EReal) (a b : Fin n) : beforeB s a b = true ↔ Before s a b := by
  unfold beforeB Before; simp

open Idealize.ShloMosaic in
theorem beforeB_order (s : Fin n → EReal) : StrictTotalBefore (beforeB s) :=
  StrictTotalBefore.of_key_then_position (fun a b : EReal => decide (b < a)) s (fun a => by simp)
    (fun a b c h h' => by simp only [decide_eq_true_eq] at *; exact h'.trans h)
    (fun a b => by simp only [decide_eq_true_eq]; rcases lt_trichotomy a b with h | h | h <;> simp [h])

open Idealize.ShloMosaic in
/-- A stable sort consults its relation only on a later position against an earlier one. -/
theorem stableSort_later {R R' : Fin n → Fin n → Bool} (h : ∀ a b, a < b → R b a = R' b a) (l : List (Fin n)) (hl : l.Pairwise (· < ·)) :
    stableSort R l = stableSort R' l := by
  induction l with
  | nil => rfl
  | cons a l ih =>
    have hp := List.pairwise_cons.mp hl
    unfold stableSort
    rw [ih hp.2]
    exact insertBefore_congr R R' a _ fun b hb => h a b (hp.1 b ((perm_stableSort R' l).mem_iff.mp hb))

open Idealize.ShloMosaic in
/-- The stable sort of a row's positions by value, greatest first, is the sort by `Before`. -/
theorem sorted_eq (s : Fin n → EReal) (R : Fin n → Fin n → Bool) (hR : ∀ a b, R a b = decide (s b < s a)) :
    sortedFrom R = sortedFrom (beforeB s) := by
  have h : sortPositions n R = sortPositions n (beforeB s) :=
    stableSort_later (fun a b hab => by rw [hR]; unfold beforeB; simp [not_lt.mpr hab.le]) _ (List.pairwise_lt_finRange n)
  funext k
  unfold sortedFrom
  exact List.get_of_eq h _

open Idealize.ShloMosaic in
/-- Eight positions in order, with every other position after all of them, are the sorted row's first eight. -/
theorem sorted_prefix {K : ℕ} (s : Fin n → EReal) (hk : K ≤ n) (σ : Fin K → Fin n) (hord : ∀ i j, i < j → Before s (σ i) (σ j))
    (hdom : ∀ i q, (∀ j, σ j ≠ q) → Before s (σ i) q) (i : Fin K) : sortedFrom (beforeB s) (i.castLE hk) = σ i := by
  have hf : ∀ a b, Before s a b → beforeB s b a = false := fun a b h =>
    Bool.eq_false_iff.mpr fun hc => h.not ((beforeB_iff s b a).mp hc)
  refine (beforeB_order s).sortedFrom_eq_of_prefix hk σ (fun a b hab => ?_) (fun a b h => hf _ _ (hord a b h)) (fun a q h => hf _ _ (hdom a q h)) i
  rcases lt_trichotomy a b with h | h | h
  · exact absurd hab (hord a b h).ne
  · exact h
  · exact absurd hab.symm (hord b a h).ne

end Cert.Select

end
-- ==== Proof.Merge.lean ====
/-
  The kernel's two steps of selection, as mathematics: a row of 50000 scores is cut in thirteen tiles of 4096 columns
  (the last one filled up with −∞), each tile gives its eight best columns, and the eight best of those 104 candidates
  are the eight best columns of the row. The candidates lie in lanes, 128 per tile, of which the first eight are used.
-/
module

public import proofs.«01_k».proof.Proof.Select

@[expose] public section

namespace Cert.Select

/-- Tile `b` of a row: its 4096 columns, −∞ where a column is past the end. -/
noncomputable def tile (S : Fin 50000 → EReal) (b : ℕ) (j : Fin 4096) : EReal :=
  if h : 4096 * b + j.val < 50000 then S ⟨4096 * b + j.val, h⟩ else ⊥

/-- The column that lane `p` names. -/
noncomputable def laneCol (S : Fin 50000 → EReal) (p : ℕ) : ℕ := 4096 * (p / 128) + (taken (tile S (p / 128)) (p % 128)).val

/-- The candidates' values: a tile's eight best in its first eight lanes, −∞ in the others. -/
noncomputable def carry (S : Fin 50000 → EReal) (p : Fin 1664) : EReal :=
  if p.val % 128 < 8 then tile S (p.val / 128) (taken (tile S (p.val / 128)) (p.val % 128)) else ⊥

theorem tile_valid (S : Fin 50000 → EReal) (hS : ∀ j, ⊥ < S j) {b : ℕ} (hb : b < 13) (i : Fin 8) :
    ⊥ < tile S b ⟨i.val, i.isLt.trans (by decide)⟩ := by
  have := i.isLt
  unfold tile; rw [dif_pos (by show 4096 * b + i.val < 50000; omega)]; exact hS _

theorem eight_inj : Function.Injective fun i : Fin 8 => (⟨i.val, i.isLt.trans (by decide)⟩ : Fin 4096) :=
  fun a b h => Fin.ext (by simpa using congrArg Fin.val h)

section
variable (S : Fin 50000 → EReal) (hS : ∀ j, ⊥ < S j)
include hS

theorem laneCol_lt (p : Fin 1664) (hp : p.val % 128 < 8) : laneCol S p.val < 50000 := by
  have hb : p.val / 128 < 13 := by have := p.isLt; omega
  have h := taken_above (tile S (p.val / 128)) _ eight_inj (tile_valid S hS hb) _ hp
  by_contra hc
  rw [tile, dif_neg (by exact hc)] at h
  exact lt_irrefl _ h

theorem carry_eq (p : Fin 1664) (hp : p.val % 128 < 8) : carry S p = S ⟨laneCol S p.val, laneCol_lt S hS p hp⟩ := by
  rw [carry, if_pos hp]
  exact dif_pos (laneCol_lt S hS p hp)

/-- Within one tile the row's order is the tile's. -/
theorem before_of_tile {b : ℕ} (a c : Fin 4096) (ha : 4096 * b + a.val < 50000) (hc : 4096 * b + c.val < 50000)
    (h : Before (tile S b) a c) : Before S ⟨4096 * b + a.val, ha⟩ ⟨4096 * b + c.val, hc⟩ := by
  unfold Before at h ⊢
  rw [tile, tile, dif_pos ha, dif_pos hc] at h
  rcases h with h | ⟨e, h⟩
  · exact .inl h
  · exact .inr ⟨e, by show 4096 * b + a.val < 4096 * b + c.val; have : a.val < c.val := h; omega⟩

/-- Candidates in order are columns in order. -/
theorem before_of_carry (p q : Fin 1664) (hp : p.val % 128 < 8) (hq : q.val % 128 < 8) (h : Before (carry S) p q) :
    Before S ⟨laneCol S p.val, laneCol_lt S hS p hp⟩ ⟨laneCol S q.val, laneCol_lt S hS q hq⟩ := by
  unfold Before at h
  rw [carry_eq S hS p hp, carry_eq S hS q hq] at h
  rcases h with h | ⟨e, h⟩
  · exact .inl h
  · refine .inr ⟨e, ?_⟩
    have hlt : p.val < q.val := h
    by_cases hb : p.val / 128 = q.val / 128
    · have hl : p.val % 128 < q.val % 128 := by omega
      have hb13 : q.val / 128 < 13 := by have := q.isLt; omega
      have hB := taken_before (tile S (q.val / 128)) _ eight_inj (tile_valid S hS hb13) _ _ hl hq
      have hB' := before_of_tile S hS (b := q.val / 128) _ _ (by have := laneCol_lt S hS p hp; unfold laneCol at this; rwa [hb] at this)
        (laneCol_lt S hS q hq) hB
      rcases hB' with hB' | ⟨_, hB'⟩
      · refine absurd e.symm (ne_of_lt ?_)
        have e' : (⟨laneCol S p.val, laneCol_lt S hS p hp⟩ : Fin 50000)
            = ⟨4096 * (q.val / 128) + (taken (tile S (q.val / 128)) (p.val % 128)).val, by
              have := laneCol_lt S hS p hp; unfold laneCol at this; rwa [hb] at this⟩ := Fin.ext (by
          show laneCol S p.val = 4096 * (q.val / 128) + (taken (tile S (q.val / 128)) (p.val % 128)).val
          rw [← hb]; rfl)
        rw [e']; exact hB'
      · show laneCol S p.val < laneCol S q.val
        have : 4096 * (q.val / 128) + (taken (tile S (q.val / 128)) (p.val % 128)).val
          < 4096 * (q.val / 128) + (taken (tile S (q.val / 128)) (q.val % 128)).val := hB'
        unfold laneCol; rwa [hb]
    · show laneCol S p.val < laneCol S q.val
      unfold laneCol
      have := (taken (tile S (p.val / 128)) (p.val % 128)).isLt
      omega

/-- The lanes that hold a candidate: tile 0's eight are enough to keep eight rounds above −∞. -/
theorem carry_valid (i : Fin 8) : ⊥ < carry S ⟨i.val, i.isLt.trans (by decide)⟩ := by
  have := i.isLt
  rw [carry_eq S hS _ (by show i.val % 128 < 8; omega)]; exact hS _

omit hS in
theorem eight_inj' : Function.Injective fun i : Fin 8 => (⟨i.val, i.isLt.trans (by decide)⟩ : Fin 1664) :=
  fun a b h => Fin.ext (by simpa using congrArg Fin.val h)

/-- A round over the candidates takes a lane that holds one. -/
theorem taken_lane (k : ℕ) (hk : k < 8) : (taken (carry S) k).val % 128 < 8 := by
  have h := taken_above (carry S) _ eight_inj' (carry_valid S hS) k hk
  by_contra hc
  rw [carry, if_neg hc] at h
  exact lt_irrefl _ h

/-- The column round `k` over the candidates takes. -/
noncomputable def best (k : Fin 8) : Fin 50000 := ⟨laneCol S (taken (carry S) k.val).val, laneCol_lt S hS _ (taken_lane S hS k.val k.isLt)⟩

theorem best_before (i j : Fin 8) (hij : i < j) : Before S (best S hS i) (best S hS j) :=
  before_of_carry S hS _ _ (taken_lane S hS _ i.isLt) (taken_lane S hS _ j.isLt) (taken_before (carry S) _ eight_inj' (carry_valid S hS) i.val j.val hij j.isLt)

/-- A lane with a candidate that no round takes comes after every round's. -/
theorem best_before_lane (k : Fin 8) (p : Fin 1664) (hp : p.val % 128 < 8) (h : ∀ i < 8, taken (carry S) i ≠ p) :
    Before S (best S hS k) ⟨laneCol S p.val, laneCol_lt S hS p hp⟩ :=
  before_of_carry S hS _ _ (taken_lane S hS _ k.isLt) hp (before_of_not_taken (carry S) _ eight_inj' (carry_valid S hS) k.val k.isLt p fun i hi => h i (by omega))

/-- Every column the two steps leave out comes after every column they take. -/
theorem best_before_rest (k : Fin 8) (q : Fin 50000) (hq : ∀ i, best S hS i ≠ q) : Before S (best S hS k) q := by
  obtain ⟨b, hb⟩ : ∃ b, b = q.val / 4096 := ⟨_, rfl⟩
  have hb13 : b < 13 := by have := q.isLt; omega
  obtain ⟨j, hj⟩ : ∃ j : Fin 4096, j.val = q.val % 4096 := ⟨⟨q.val % 4096, Nat.mod_lt _ (by decide)⟩, rfl⟩
  have hqj : 4096 * b + j.val = q.val := by omega
  -- lane i of this tile
  let L : Fin 8 → Fin 1664 := fun i => ⟨128 * b + i.val, by have := i.isLt; omega⟩
  have hL1 : ∀ i, (L i).val / 128 = b := fun i => by have := i.isLt; show (128 * b + i.val) / 128 = b; omega
  have hL2 : ∀ i, (L i).val % 128 = i.val := fun i => by have := i.isLt; show (128 * b + i.val) % 128 = i.val; omega
  have hL3 : ∀ i, (L i).val % 128 < 8 := fun i => by rw [hL2]; exact i.isLt
  have hLc : ∀ i, laneCol S (L i).val = 4096 * b + (taken (tile S b) i.val).val := fun i => by unfold laneCol; rw [hL1, hL2]
  by_cases hin : ∃ i : Fin 8, taken (tile S b) i.val = j
  · obtain ⟨i, hi⟩ := hin
    have hc : (⟨laneCol S (L i).val, laneCol_lt S hS (L i) (hL3 i)⟩ : Fin 50000) = q := Fin.ext (by
      show laneCol S (L i).val = q.val; rw [hLc, hi, hqj])
    have := best_before_lane S hS k (L i) (hL3 i) fun a ha e => hq ⟨a, ha⟩ (by
      rw [← hc]; exact Fin.ext (by show laneCol S (taken (carry S) a).val = _; rw [e]))
    rwa [hc] at this
  · push Not at hin
    have hlane : ∀ i : Fin 8, Before S ⟨laneCol S (L i).val, laneCol_lt S hS (L i) (hL3 i)⟩ q := fun i => by
      have h1 := before_of_not_taken (tile S b) _ eight_inj (tile_valid S hS hb13) i.val i.isLt j fun a ha => hin ⟨a, by have := i.isLt; omega⟩
      have h2 := before_of_tile S hS (b := b) _ _ (by have := laneCol_lt S hS (L i) (hL3 i); rwa [hLc] at this) (by have := q.isLt; omega) h1
      have e1 : (⟨laneCol S (L i).val, laneCol_lt S hS (L i) (hL3 i)⟩ : Fin 50000) = ⟨4096 * b + (taken (tile S b) i.val).val, by
        have := laneCol_lt S hS (L i) (hL3 i); rwa [hLc] at this⟩ := Fin.ext (hLc i)
      have e2 : q = ⟨4096 * b + j.val, by have := q.isLt; omega⟩ := Fin.ext hqj.symm
      rw [e1]; rw [e2]; exact h2
    by_cases hall : ∃ i : Fin 8, ∀ a < 8, taken (carry S) a ≠ L i
    · obtain ⟨i, hi⟩ := hall
      exact (best_before_lane S hS k (L i) (hL3 i) hi).trans (hlane i)
    · push Not at hall
      choose f hf hf' using hall
      have hinj : Function.Injective fun i : Fin 8 => (⟨f i, hf i⟩ : Fin 8) := fun x y hxy => by
        have e : f x = f y := congrArg Fin.val hxy
        have e' : L x = L y := by rw [← hf' x, ← hf' y, e]
        exact Fin.ext (by rw [← hL2 x, ← hL2 y, e'])
      obtain ⟨i, hi⟩ := (Finite.injective_iff_surjective.mp hinj) k
      have e : best S hS k = ⟨laneCol S (L i).val, laneCol_lt S hS (L i) (hL3 i)⟩ := Fin.ext (by
        show laneCol S (taken (carry S) k.val).val = _
        rw [← hi, hf' i])
      rw [e]; exact hlane i

open Idealize.ShloMosaic in
/-- The row sorted by value, greatest first, begins with the columns the two steps take. -/
theorem sorted_best (R : Fin 50000 → Fin 50000 → Bool) (hR : ∀ a b, R a b = decide (S b < S a)) (k : Fin 8) :
    sortedFrom R (k.castLE (by decide)) = best S hS k := by
  rw [sorted_eq S R hR]
  exact sorted_prefix S (by decide) (best S hS) (best_before S hS) (best_before_rest S hS) k

/-- The value that round reads. -/
theorem best_value (k : Fin 8) : rest (carry S) k.val (taken (carry S) k.val) = S (best S hS k) := by
  rw [rest_at (carry S) _ eight_inj' (carry_valid S hS) k.val k.isLt]
  exact carry_eq S hS _ (taken_lane S hS k.val k.isLt)

end

end Cert.Select

end
-- ==== Proof.Norm.lean ====
module

public import Idealize.ShloMosaic.Lib.Pointwise
public import proofs.«01_k».proof.Proof.Merge

/-!
# The scores

A row divided by its Euclidean norm plus a small positive number is a row of real numbers, whatever it was: a row whose
squares add up to `⊤` becomes zero. So every score, an inner product of such rows, is above `⊥`.
-/

@[expose] public section

noncomputable section

namespace Cert.Score

open Idealize.ShloMosaic

/-- The small number added to a norm. -/
def eps : EReal := Ideal.ofBits .f32 0x2B8CBCCC#32

theorem eps_pos : ∃ r : ℝ, 0 < r ∧ eps = (r : EReal) := by
  refine ⟨2 ^ (-40 : ℤ) * (1 + 834764 / 2 ^ 23), by positivity, ?_⟩
  simp [eps, Ideal.ofBits, Ideal.ieee]
  norm_cast
  norm_num

/-- A row divided by its norm plus the small number. -/
def nrm {n : ℕ} (v : Fin n → EReal) (k : Fin n) : EReal := Ideal.div (v k) (Ideal.sqrt (∑ j, v j * v j) + eps)

theorem sq_nonneg' (x : EReal) : 0 ≤ x * x := by
  induction x with
  | bot => simp
  | top => simp
  | coe r => rw [← EReal.coe_mul]; exact_mod_cast mul_self_nonneg r

theorem real_of_sq_lt (x : EReal) (h : x * x < ⊤) : ∃ r : ℝ, x = (r : EReal) := by
  induction x with
  | bot => simp at h
  | top => simp at h
  | coe r => exact ⟨r, rfl⟩

/-- A normalised row is real. -/
theorem nrm_real {n : ℕ} (v : Fin n → EReal) (k : Fin n) : ∃ r : ℝ, nrm v k = (r : EReal) := by
  obtain ⟨e, he, hee⟩ := eps_pos
  unfold nrm
  rw [hee]
  have h0 : 0 ≤ ∑ j, v j * v j := Finset.sum_nonneg fun j _ => sq_nonneg' _
  rcases eq_or_lt_of_le (le_top (a := ∑ j, v j * v j)) with ht | ht
  · rw [ht, Ideal.sqrt_top, EReal.top_add_coe]
    exact ⟨0, by simp [Ideal.div]⟩
  · have hk : v k * v k < ⊤ := lt_of_le_of_lt (Finset.single_le_sum (fun j _ => sq_nonneg' (v j)) (Finset.mem_univ k)) ht
    obtain ⟨a, ha⟩ := real_of_sq_lt _ hk
    lift (∑ j, v j * v j) to ℝ using ⟨ht.ne, (lt_of_lt_of_le EReal.bot_lt_zero h0).ne'⟩ with s hs
    have hs0 : 0 ≤ s := by exact_mod_cast h0
    have hq : Ideal.sqrt (s : EReal) = (Real.sqrt s : EReal) := by
      rw [Ideal.sqrt_coe, if_neg (not_lt.mpr hs0)]
    rw [ha, hq, ← EReal.coe_add]
    have hp : 0 < Real.sqrt s + e := by positivity
    refine ⟨a * (Real.sqrt s + e)⁻¹, ?_⟩
    unfold Ideal.div
    rw [if_neg (by exact_mod_cast hp.ne'), ← EReal.coe_inv, ← EReal.coe_mul]

/-- An inner product of real rows is above `⊥`. -/
theorem bot_lt_inner {n : ℕ} (a b : Fin n → EReal) (ha : ∀ k, ∃ r : ℝ, a k = (r : EReal)) (hb : ∀ k, ∃ r : ℝ, b k = (r : EReal)) :
    ⊥ < ∑ k, a k * b k := by
  obtain ⟨r, hr⟩ : ∃ r : ℝ, ∑ k, a k * b k = (r : EReal) :=
    Finset.sum_induction _ (fun x => ∃ r : ℝ, x = (r : EReal))
      (fun x y ⟨p, hp⟩ ⟨q, hq⟩ => ⟨p + q, by rw [hp, hq, EReal.coe_add]⟩) ⟨0, rfl⟩
      fun k _ => by
        obtain ⟨p, hp⟩ := ha k
        obtain ⟨q, hq⟩ := hb k
        exact ⟨p * q, by rw [hp, hq, EReal.coe_mul]⟩
  rw [hr]
  exact EReal.bot_lt_coe r

/-- The query rows: the mean over the middle axis, projected, plus the bias. -/
def query (x : Fin 1024 → Fin 50 → Fin 512 → EReal) (w : Fin 512 → Fin 512 → EReal) (b : Fin 512 → EReal) (q : Fin 1024) (e : Fin 512) : EReal :=
  (∑ k, Ideal.div (∑ s, x q s k) (Ideal.ofBits .f32 0x42480000#32) * w e k) + b e

/-- The score of a document for a query. -/
def score (x : Fin 1024 → Fin 50 → Fin 512 → EReal) (w : Fin 512 → Fin 512 → EReal) (b : Fin 512 → EReal) (y : Fin 50000 → Fin 512 → EReal)
    (q : Fin 1024) (d : Fin 50000) : EReal :=
  ∑ k, nrm (query x w b q) k * nrm (nrm (y d)) k

theorem bot_lt_score (x : Fin 1024 → Fin 50 → Fin 512 → EReal) (w : Fin 512 → Fin 512 → EReal) (b : Fin 512 → EReal) (y : Fin 50000 → Fin 512 → EReal)
    (q : Fin 1024) (d : Fin 50000) : ⊥ < score x w b y q d :=
  bot_lt_inner _ _ (nrm_real _) (nrm_real _)

end Cert.Score
-- ==== Proof.KernelIdeal.LinearRead.lean ====
module

public import proofs.«01_k».proof.Proof.KernelIdeal.LinearRegion
public import Idealize.ShloMosaic.Lib.Pointwise
public import Idealize.ShloMosaic.Lib.Pipeline.Value

/-!
# What the first region computes

Where its blocks lie, what its body leaves of them, and the projection's whole result.
-/

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)

theorem linear_index (t : Fin cfg0.N) : cc0_transform_0 (grid0.coords t) 0 = t.val ∧ cc0_transform_0 (grid0.coords t) 1 = 0
    ∧ cc0_transform_3 (grid0.coords t) 0 = t.val ∧ cc0_transform_3 (grid0.coords t) 1 = 0 := by
  revert t; decide +kernel
theorem linear_flush (t : Fin cfg0.N) : (cfg0.win 3).flush t = true := by
  revert t; decide +kernel

section
variable (V : (c : Dev nD) → (b : Ref sig .tc) → Buf (Elt Ideal) ((c : Thread nD τ).loc b)) (c : Dev nD) (t : Fin cfg0.N)

theorem linBlk0_read (r : Fin 128) (k : Fin 512) : linBlk V c 0 t (ix2 r k)
    = (V c main_call0_v2 : FVec Ideal S1024x512 .f32) (ix2 ⟨128 * t.val + r.val, by have : t.val < 8 := t.isLt; have := r.isLt; omega⟩ k) := by
  refine congrArg (V c main_call0_v2 : FVec Ideal S1024x512 .f32) (Shape.idx_ext₂ ?_ ?_)
  · refine ((cfg0.win 0).rect_emb_val t (ix2 r k) 0).trans ?_
    show cc0_transform_0 (grid0.coords t) 0 * 128 + r.val = 128 * t.val + r.val
    rw [(linear_index t).1]; omega
  · refine ((cfg0.win 0).rect_emb_val t (ix2 r k) 1).trans ?_
    show cc0_transform_0 (grid0.coords t) 1 * 512 + k.val = k.val
    rw [(linear_index t).2.1]; omega

theorem linBlk1_read (r : Fin 512) (k : Fin 512) : linBlk V c 1 t (ix2 r k) = (V c main_arg1 : FVec Ideal S512x512 .f32) (ix2 r k) := by
  refine congrArg (V c main_arg1 : FVec Ideal S512x512 .f32) (Shape.idx_ext₂ ?_ ?_)
  · refine ((cfg0.win 1).rect_emb_val t (ix2 r k) 0).trans ?_
    show 0 * 512 + r.val = r.val
    omega
  · refine ((cfg0.win 1).rect_emb_val t (ix2 r k) 1).trans ?_
    show 0 * 512 + k.val = k.val
    omega

theorem linBlk2_read (k : Fin 512) : linBlk V c 2 t (ix2 0 k) = (V c main_call0_v3 : FVec Ideal S1x512 .f32) (ix2 0 k) := by
  refine congrArg (V c main_call0_v3 : FVec Ideal S1x512 .f32) (Shape.idx_ext₂ ?_ ?_)
  · refine ((cfg0.win 2).rect_emb_val t (ix2 0 k) 0).trans ?_
    rfl
  · refine ((cfg0.win 2).rect_emb_val t (ix2 0 k) 1).trans ?_
    show 0 * 512 + k.val = k.val
    omega

theorem linTile_read (x0 : Vec Ideal S128x512 .f32) (x1 : Vec Ideal S512x512 .f32) (x2 : Vec Ideal S1x512 .f32) (r : Fin 128) (e : Fin 512) :
    linTile (F := Ideal) x0 x1 x2 (ix2 r e) = (∑ k : Fin 512, x0 (ix2 r k) * x1 (ix2 e k)) + x2 (ix2 0 e) := by
  pointwise [linTile, k0_pay1]

/-- Where a point's block lies in the projection's result. -/
theorem linear_place (r : Fin 128) (e : Fin 512) : ((cfg0.win 3).blk t).view.emb (ix2 r e)
    = (ix2 ⟨128 * t.val + r.val, by have : t.val < 8 := t.isLt; have := r.isLt; omega⟩ e : S1024x512.Idx) := by
  refine Shape.idx_ext₂ ?_ ?_
  · refine ((cfg0.win 3).rect_emb_val t (ix2 r e) 0).trans ?_
    show cc0_transform_3 (grid0.coords t) 0 * 128 + r.val = 128 * t.val + r.val
    rw [(linear_index t).2.2.1]; omega
  · refine ((cfg0.win 3).rect_emb_val t (ix2 r e) 1).trans ?_
    show cc0_transform_3 (grid0.coords t) 1 * 512 + e.val = e.val
    rw [(linear_index t).2.2.2]; omega

/-- The projection's whole result. -/
def linAll (x : FVec Ideal S1024x512 .f32) (w : FVec Ideal S512x512 .f32) (b : FVec Ideal S1x512 .f32) : FVec Ideal S1024x512 .f32 :=
  fun i => (∑ k : Fin 512, x (ix2 (i 0) k) * w (ix2 (i 1) k)) + b (ix2 0 (i 1))

theorem linTile_blk (r : Fin 128) (e : Fin 512) : linTile (F := Ideal) (linBlk V c 0 t) (linBlk V c 1 t) (linBlk V c 2 t) (ix2 r e)
    = linAll (V c main_call0_v2) (V c main_arg1) (V c main_call0_v3)
      (ix2 ⟨128 * t.val + r.val, by have : t.val < 8 := t.isLt; have := r.isLt; omega⟩ e) :=
  (linTile_read _ _ _ r e).trans (congrArg₂ (· + ·)
    (Finset.sum_congr rfl fun k _ => congrArg₂ (· * ·) (linBlk0_read V c t r k) (linBlk1_read V c t e k)) (linBlk2_read V c t e))

theorem linear_cover (i : S1024x512.Idx) : ∃ t : Fin cfg0.N, (cfg0.win 3).flush t = true ∧ i ∈ ((cfg0.win 3).blk t).view.set := by
  have h0 : (i 0).val < 1024 := (i 0).isLt
  let t : Fin cfg0.N := (⟨(i 0).val / 128, by omega⟩ : Fin 8)
  let r : Fin 128 := ⟨(i 0).val % 128, by omega⟩
  have hi : (ix2 ⟨128 * t.val + r.val, by have : t.val < 8 := t.isLt; have := r.isLt; omega⟩ (i 1) : S1024x512.Idx) = i :=
    Shape.idx_ext₂ (show 128 * ((i 0).val / 128) + (i 0).val % 128 = (i 0).val by omega) rfl
  have e := (linear_place t r (i 1)).trans hi
  exact ⟨t, linear_flush t, e ▸ View.emb_mem_set _ _⟩

/-- The first region leaves the projection in its result. -/
theorem linear_array : (linDat V c).arrAt 3 cfg0.N = linAll (V c main_call0_v2) (V c main_arg1) (V c main_call0_v3) := by
  refine (linDat V c).arrAt_eq_of_cover 3 (linAll (V c main_call0_v2) (V c main_arg1) (V c main_call0_v3)) (fun t _ => funext fun y => ?_) linear_cover
  have hy : y = ix2 (y 0) (y 1) := Shape.idx_ext₂ rfl rfl
  rw [hy]
  refine (congrFun (linDat_after3 V c t) (ix2 (y 0) (y 1))).trans ?_
  refine (linTile_blk V c t (y 0) (y 1)).trans ?_
  exact (congrArg (linAll (V c main_call0_v2) (V c main_arg1) (V c main_call0_v3)) (linear_place t (y 0) (y 1))).symm
end

end Cert.KernelIdeal.Hand
-- ==== Proof.KernelIdeal.Stretch.lean ====
module

public import proofs.«01_k».proof.Proof.KernelIdeal.Run

/-!
# What the host computes around the two regions

Before the first region the mean over the middle axis and the bias as a row; between the two the normalised queries and
the twice normalised documents, padded to whole tiles.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- Each row divided by its norm plus a small number. -/
def unitQ (x : FVec Ideal S1024x512 .f32) : FVec Ideal S1024x512 .f32 :=
  Host.divf x (broadcastInDim S1024x512 ![0, 1] bcast_S1024x1_S1024x512_0_1 (addf (Host.sqrt (broadcastInDim S1024x1 ![0] bcast_S1024_S1024x1_0
    (Host.reduceAdd (mulf x x) (constant S_ .f32 0x00000000#32) reducesTo_S1024x512_S1024_d1 h_S_)))
    (broadcastInDim S1024x1 ![] bcast_S_S1024x1 (constant S_ .f32 0x2B8CBCCC#32))))
def unitD (x : FVec Ideal S50000x512 .f32) : FVec Ideal S50000x512 .f32 :=
  Host.divf x (broadcastInDim S50000x512 ![0, 1] bcast_S50000x1_S50000x512_0_1 (addf (Host.sqrt (broadcastInDim S50000x1 ![0] bcast_S50000_S50000x1_0
    (Host.reduceAdd (mulf x x) (constant S_ .f32 0x00000000#32) reducesTo_S50000x512_S50000_d1 h_S_)))
    (broadcastInDim S50000x1 ![] bcast_S_S50000x1 (constant S_ .f32 0x2B8CBCCC#32))))

set_option maxHeartbeats 2000000 in
theorem B3_queries (c : Dev nD) : (B3 m ρ c (Proc.devRef .tc main_call0_v9) : FVec Ideal S1024x512 .f32)
    = unitQ (B2 m ρ c (Proc.devRef .tc main_call0_v4) : FVec Ideal S1024x512 .f32) := by
  unfold unitQ
  simp only [B3, hostOps1, TRef.binary, TRef.nullary, TRef.unary, TRef.toBuf, TRef.ofBuf, cast_eq]; after_results_simp

set_option maxHeartbeats 2000000 in
theorem B3_docs (c : Dev nD) : (B3 m ρ c (Proc.devRef .tc main_call0_v20) : FVec Ideal S53248x512 .f32)
    = pad S53248x512 ![0, 0] ![3248, 0] ![0, 0] (unitD (unitD (B2 m ρ c (Proc.devRef .tc main_arg3) : FVec Ideal S50000x512 .f32)))
      (sitofp .f32 (constantI S_ 32 0#32)) pads_S50000x512_S53248x512_032480_000 h_S_ := by
  unfold unitD
  simp only [B3, hostOps1, TRef.binary, TRef.nullary, TRef.unary, TRef.toBuf, TRef.ofBuf, cast_eq]; after_results_simp

/-- The mean over the middle axis. -/
def meanRows (x : FVec Ideal S1024x50x512 .f32) : FVec Ideal S1024x512 .f32 :=
  Host.divf (Host.reduceAdd x (constant S_ .f32 0x00000000#32) reducesTo_S1024x50x512_S1024x512_d1 h_S_)
    (broadcastInDim S1024x512 ![] bcast_S_S1024x512 (constant S_ .f32 0x42480000#32))

/-- The bias as a row. -/
def biasRow (x : FVec Ideal S512 .f32) : FVec Ideal S1x512 .f32 := shapeCast S1x512 x shapeCasts_S512_S1x512

theorem B1_mean (c : Dev nD) : (B1 m ρ c (Proc.devRef .tc main_call0_v2) : FVec Ideal S1024x512 .f32)
    = meanRows (m ((c : Thread nD τ).loc main_arg0) : FVec Ideal S1024x50x512 .f32) := by
  unfold meanRows
  simp only [B1, hostOps0, TRef.binary, TRef.nullary, TRef.unary, TRef.reshape, TRef.toBuf, TRef.ofBuf, cast_eq]; after_results_simp

theorem B1_bias (c : Dev nD) : (B1 m ρ c (Proc.devRef .tc main_call0_v3) : FVec Ideal S1x512 .f32)
    = biasRow (m ((c : Thread nD τ).loc main_arg2) : FVec Ideal S512 .f32) := by
  simp only [B1, hostOps0, TRef.binary, TRef.nullary, TRef.unary, TRef.reshape, TRef.toBuf, TRef.ofBuf, cast_eq]; after_results_simp; rfl

end Cert.KernelIdeal.Hand
-- ==== Proof.KernelIdeal.Scores.lean ====
module

public import proofs.«01_k».proof.Proof.Norm
public import proofs.«01_k».proof.Proof.KernelIdeal.LinearRead
public import proofs.«01_k».proof.Proof.KernelIdeal.Stretch

/-!
# The rows the second region reads

Its queries are the projected means, normalised; its documents are the document rows, normalised twice, with rows of
zeros after them.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.Score

theorem unitQ_read (x : FVec Ideal S1024x512 .f32) (q : Fin 1024) (k : Fin 512) : unitQ x (ix2 q k) = nrm (fun j => x (ix2 q j)) k := by
  pointwise [unitQ, nrm, eps]
theorem unitD_read (x : FVec Ideal S50000x512 .f32) (q : Fin 50000) (k : Fin 512) : unitD x (ix2 q k) = nrm (fun j => x (ix2 q j)) k := by
  pointwise [unitD, nrm, eps]
theorem meanRows_read (x : FVec Ideal S1024x50x512 .f32) (q : Fin 1024) (k : Fin 512) : meanRows x (ix2 q k)
    = Ideal.div (∑ s : Fin 50, x (ix3 q s k)) (Ideal.ofBits .f32 0x42480000#32) := by
  pointwise [meanRows]
theorem biasRow_read (x : FVec Ideal S512 .f32) (e : Fin 512) : biasRow x (ix2 0 e) = x (ix1 e) := by
  pointwise [biasRow]
theorem pad_read (x : FVec Ideal S50000x512 .f32) (z : FVec Ideal S_ .f32) (d : Fin 53248) (k : Fin 512) (h : d.val < 50000) :
    pad S53248x512 ![0, 0] ![3248, 0] ![0, 0] x z pads_S50000x512_S53248x512_032480_000 h_S_ (ix2 d k) = x (ix2 ⟨d.val, h⟩ k) := by
  pointwise
  exact dif_pos h

section
variable (m : (ℓ : Loc nD τ sig) → Buf (Elt Ideal) ℓ) (ρ : Dev nD → PrngReg) (c : Dev nD)

/-- The arguments by their coordinates. -/
def argX (q : Fin 1024) (s : Fin 50) (k : Fin 512) : EReal := (m ((c : Thread nD τ).loc main_arg0) : FVec Ideal S1024x50x512 .f32) (ix3 q s k)
def argW (e k : Fin 512) : EReal := (m ((c : Thread nD τ).loc main_arg1) : FVec Ideal S512x512 .f32) (ix2 e k)
def argB (e : Fin 512) : EReal := (m ((c : Thread nD τ).loc main_arg2) : FVec Ideal S512 .f32) (ix1 e)
def argY (d : Fin 50000) (k : Fin 512) : EReal := (m ((c : Thread nD τ).loc main_arg3) : FVec Ideal S50000x512 .f32) (ix2 d k)

/-- A query's scores. -/
def rowS (q : Fin 1024) : Fin 50000 → EReal := score (argX m c) (argW m c) (argB m c) (argY m c) q

theorem rowS_valid (q : Fin 1024) (d : Fin 50000) : ⊥ < rowS m c q d := bot_lt_score _ _ _ _ q d

theorem B2_linear (q : Fin 1024) (e : Fin 512) : (B2 m ρ c (Proc.devRef .tc main_call0_v4) : FVec Ideal S1024x512 .f32) (ix2 q e)
    = query (argX m c) (argW m c) (argB m c) q e := by
  refine (congrFun ((B2_array m ρ c 3).trans (linear_array (E1 m ρ) c)) (ix2 q e)).trans ?_
  refine congrArg₂ (· + ·) (Finset.sum_congr rfl fun k _ => congrArg₂ (· * ·) ?_ ?_) ?_
  · exact (congrFun (B1_mean m ρ c) (ix2 q k)).trans (meanRows_read _ q k)
  · exact congrFun (B1_args m ρ c main_arg1 (by decide)) (ix2 e k)
  · exact (congrFun (B1_bias m ρ c) (ix2 0 e)).trans (biasRow_read _ e)

theorem E3_query (q : Fin 1024) (k : Fin 512) : (E3 m ρ c main_call0_v9 : FVec Ideal S1024x512 .f32) (ix2 q k)
    = nrm (query (argX m c) (argW m c) (argB m c) q) k := by
  refine (congrFun (B3_queries m ρ c) (ix2 q k)).trans ((unitQ_read _ q k).trans ?_)
  exact congrArg (fun v => nrm v k) (funext fun j => B2_linear m ρ c q j)

theorem E3_doc (d : Fin 53248) (k : Fin 512) (h : d.val < 50000) : (E3 m ρ c main_call0_v20 : FVec Ideal S53248x512 .f32) (ix2 d k)
    = nrm (nrm (argY m c ⟨d.val, h⟩)) k := by
  refine (congrFun (B3_docs m ρ c) (ix2 d k)).trans ((pad_read _ _ d k h).trans ((unitD_read _ _ k).trans ?_))
  refine congrArg (fun v => nrm v k) (funext fun j => (unitD_read _ _ j).trans ?_)
  exact congrArg (fun v => nrm v j) (funext fun l => congrFun (B2_args m ρ c main_arg3 (by decide)) (ix2 ⟨d.val, h⟩ l))
end

end Cert.KernelIdeal.Hand
-- ==== Proof.KernelIdeal.TopRead.lean ====
module

public import proofs.«01_k».proof.Proof.KernelIdeal.TopRegion
public import Idealize.ShloMosaic.Lib.Pointwise
public import Idealize.ShloMosaic.Lib.Pipeline.Value

/-!
# Where the second region's blocks lie

The query block of a point, its document block, and the cover of the two results by the blocks written back at the last
document tile of each query tile.
-/

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)

theorem top_index (t : Fin cfg1.N) : cc1_transform_0 (grid1.coords t) 0 = t.val / 13 ∧ cc1_transform_1 (grid1.coords t) 0 = t.val % 13
    ∧ cc1_transform_2 (grid1.coords t) 0 = t.val / 13 ∧ cc1_transform_3 (grid1.coords t) 0 = t.val / 13 ∧ (grid1.coords t 1).val = t.val % 13 := by
  revert t; decide +kernel
theorem top_flush2 (t : Fin cfg1.N) : t.val % 13 = 12 → (cfg1.win 2).flush t = true := by
  revert t; decide +kernel
theorem top_flush3 (t : Fin cfg1.N) : t.val % 13 = 12 → (cfg1.win 3).flush t = true := by
  revert t; decide +kernel

section
variable (V : (c : Dev nD) → (b : Ref sig .tc) → Buf (Elt Ideal) ((c : Thread nD τ).loc b)) (c : Dev nD) (t : Fin cfg1.N)

theorem row_lt (r : Fin 256) : 256 * (t.val / 13) + r.val < 1024 := by
  have : t.val < 52 := t.isLt
  have := r.isLt
  omega
theorem doc_lt (j : Fin 4096) : 4096 * (t.val % 13) + j.val < 53248 := by
  have := j.isLt
  omega

theorem topBlk0_read (r : Fin 256) (k : Fin 512) : topBlk V c 0 t (ix2 r k)
    = (V c main_call0_v9 : FVec Ideal S1024x512 .f32) (ix2 ⟨256 * (t.val / 13) + r.val, row_lt t r⟩ k) := by
  refine congrArg (V c main_call0_v9 : FVec Ideal S1024x512 .f32) (Shape.idx_ext₂ ?_ ?_)
  · refine ((cfg1.win 0).rect_emb_val t (ix2 r k) 0).trans ?_
    show cc1_transform_0 (grid1.coords t) 0 * 256 + r.val = 256 * (t.val / 13) + r.val
    rw [(top_index t).1]; omega
  · refine ((cfg1.win 0).rect_emb_val t (ix2 r k) 1).trans ?_
    show 0 * 512 + k.val = k.val
    omega

theorem topBlk1_read (j : Fin 4096) (k : Fin 512) : topBlk V c 1 t (ix2 j k)
    = (V c main_call0_v20 : FVec Ideal S53248x512 .f32) (ix2 ⟨4096 * (t.val % 13) + j.val, doc_lt t j⟩ k) := by
  refine congrArg (V c main_call0_v20 : FVec Ideal S53248x512 .f32) (Shape.idx_ext₂ ?_ ?_)
  · refine ((cfg1.win 1).rect_emb_val t (ix2 j k) 0).trans ?_
    show cc1_transform_1 (grid1.coords t) 0 * 4096 + j.val = 4096 * (t.val % 13) + j.val
    rw [(top_index t).2.1]; omega
  · refine ((cfg1.win 1).rect_emb_val t (ix2 j k) 1).trans ?_
    show 0 * 512 + k.val = k.val
    omega

theorem top_place2 (r : Fin 256) (e : Fin 8) : ((cfg1.win 2).blk t).view.emb (ix2 r e)
    = (ix2 ⟨256 * (t.val / 13) + r.val, row_lt t r⟩ e : S1024x8.Idx) := by
  refine Shape.idx_ext₂ ?_ ?_
  · refine ((cfg1.win 2).rect_emb_val t (ix2 r e) 0).trans ?_
    show cc1_transform_2 (grid1.coords t) 0 * 256 + r.val = 256 * (t.val / 13) + r.val
    rw [(top_index t).2.2.1]; omega
  · refine ((cfg1.win 2).rect_emb_val t (ix2 r e) 1).trans ?_
    show 0 * 8 + e.val = e.val
    omega
theorem top_place3 (r : Fin 256) (e : Fin 8) : ((cfg1.win 3).blk t).view.emb (ix2 r e)
    = (ix2 ⟨256 * (t.val / 13) + r.val, row_lt t r⟩ e : S1024x8.Idx) := by
  refine Shape.idx_ext₂ ?_ ?_
  · refine ((cfg1.win 3).rect_emb_val t (ix2 r e) 0).trans ?_
    show cc1_transform_3 (grid1.coords t) 0 * 256 + r.val = 256 * (t.val / 13) + r.val
    rw [(top_index t).2.2.2.1]; omega
  · refine ((cfg1.win 3).rect_emb_val t (ix2 r e) 1).trans ?_
    show 0 * 8 + e.val = e.val
    omega

theorem top_cover2 (i : S1024x8.Idx) : ∃ t : Fin cfg1.N, (cfg1.win 2).flush t = true ∧ i ∈ ((cfg1.win 2).blk t).view.set := by
  have h0 : (i 0).val < 1024 := (i 0).isLt
  let t : Fin cfg1.N := (⟨13 * ((i 0).val / 256) + 12, by omega⟩ : Fin 52)
  have ht : t.val = 13 * ((i 0).val / 256) + 12 := rfl
  let r : Fin 256 := ⟨(i 0).val % 256, by omega⟩
  have hi : (ix2 ⟨256 * (t.val / 13) + r.val, row_lt t r⟩ (i 1) : S1024x8.Idx) = i :=
    Shape.idx_ext₂ (show 256 * ((13 * ((i 0).val / 256) + 12) / 13) + (i 0).val % 256 = (i 0).val by omega) rfl
  have e := (top_place2 t r (i 1)).trans hi
  exact ⟨t, top_flush2 t (by omega), e ▸ View.emb_mem_set _ _⟩
theorem top_cover3 (i : S1024x8.Idx) : ∃ t : Fin cfg1.N, (cfg1.win 3).flush t = true ∧ i ∈ ((cfg1.win 3).blk t).view.set := by
  have h0 : (i 0).val < 1024 := (i 0).isLt
  let t : Fin cfg1.N := (⟨13 * ((i 0).val / 256) + 12, by omega⟩ : Fin 52)
  have ht : t.val = 13 * ((i 0).val / 256) + 12 := rfl
  let r : Fin 256 := ⟨(i 0).val % 256, by omega⟩
  have hi : (ix2 ⟨256 * (t.val / 13) + r.val, row_lt t r⟩ (i 1) : S1024x8.Idx) = i :=
    Shape.idx_ext₂ (show 256 * ((13 * ((i 0).val / 256) + 12) / 13) + (i 0).val % 256 = (i 0).val by omega) rfl
  have e := (top_place3 t r (i 1)).trans hi
  exact ⟨t, top_flush3 t (by omega), e ▸ View.emb_mem_set _ _⟩

/-- A function that every query tile's merged values agree with is the first result. -/
theorem top_array2 (G : FVec Ideal S1024x8 .f32)
    (hG : ∀ (t : Fin cfg1.N) (r : Fin 256) (e : Fin 8), bestVals (rowVals V c (t.val / 13)) (ix2 r e) = G (ix2 ⟨256 * (t.val / 13) + r.val, row_lt t r⟩ e)) :
    (topDat V c).arrAt 2 cfg1.N = G := by
  refine (topDat V c).arrAt_eq_of_cover 2 G (fun t _ => funext fun y => ?_) top_cover2
  have hy : y = ix2 (y 0) (y 1) := Shape.idx_ext₂ rfl rfl
  rw [hy]
  refine (congrFun (topDat_after2 V c t) (ix2 (y 0) (y 1))).trans ?_
  refine (hG t (y 0) (y 1)).trans ?_
  exact (congrArg G (top_place2 t (y 0) (y 1))).symm

/-- The same of the second result. -/
theorem top_array3 (G : IVec S1024x8 32)
    (hG : ∀ (t : Fin cfg1.N) (r : Fin 256) (e : Fin 8),
      bestCols (F := Ideal) (rowVals V c (t.val / 13)) (rowCols V c (t.val / 13)) (ix2 r e) = G (ix2 ⟨256 * (t.val / 13) + r.val, row_lt t r⟩ e)) :
    (topDat V c).arrAt 3 cfg1.N = G := by
  refine (topDat V c).arrAt_eq_of_cover 3 G (fun t _ => funext fun y => ?_) top_cover3
  have hy : y = ix2 (y 0) (y 1) := Shape.idx_ext₂ rfl rfl
  rw [hy]
  refine (congrFun (topDat_after3 V c t) (ix2 (y 0) (y 1))).trans ?_
  refine (hG t (y 0) (y 1)).trans ?_
  exact (congrArg G (top_place3 t (y 0) (y 1))).symm
end

end Cert.KernelIdeal.Hand
-- ==== Proof.KernelIdeal.Rounds.lean ====
/-
  The scoring kernel's rounds over the extended reals. A round of the body is three vector operations: the greatest
  entry of each row, the least label among the positions that hold it, and the row with −∞ where the label is. Read row
  by row these are the rounds of `Select`. So the eight lanes a tile contributes, and the eight results handed out at
  the last tile, are read as `taken` positions of their rows.
-/
module

public import proofs.«01_k».proof.Proof.KernelIdeal.TopBody
public import proofs.«01_k».proof.Proof.Select
public import Idealize.ShloMosaic.Lib.Pointwise

@[expose] public section

noncomputable section

namespace Cert.KernelIdeal.Hand

open Cert.KernelIdeal Cert.KernelIdeal.Gen Cert.Select
open Idealize.ShloMosaic

/-! ## The constants -/

theorem neg_inf : Ideal.ofBits .f32 0xFF800000#32 = ⊥ := by simp [Ideal.ofBits, Ideal.ieee]
theorem pos_inf : Ideal.ofBits .f32 0x7F800000#32 = ⊤ := by simp [Ideal.ofBits, Ideal.ieee]
theorem fifty : Ideal.ofBits .f32 0x47435000#32 = (((50000 : ℕ) : ℝ) : EReal) := by
  simp [Ideal.ofBits, Ideal.ieee]; norm_cast; norm_num
theorem billion : Ideal.ofBits .f32 0x4E6E6B28#32 = (((1000000000 : ℕ) : ℝ) : EReal) := by
  simp [Ideal.ofBits, Ideal.ieee]; norm_cast

/-- A label: a whole number as an extended real. -/
def lab (n : ℕ) : EReal := ((n : ℝ) : EReal)

theorem lab_le {a b : ℕ} : lab a ≤ lab b ↔ a ≤ b := by unfold lab; rw [EReal.coe_le_coe_iff]; exact_mod_cast Iff.rfl
theorem lab_lt {a b : ℕ} : lab a < lab b ↔ a < b := by unfold lab; rw [EReal.coe_lt_coe_iff]; exact_mod_cast Iff.rfl
theorem lab_inj {a b : ℕ} (h : lab a = lab b) : a = b := by unfold lab at h; exact_mod_cast h

/-- A small unsigned number converted from an integer word. -/
theorem sitofp_small (n : ℕ) (h : n < 2 ^ 31) : (FloatOps.sitofp FTy.f32 (BitVec.ofNat 32 n) : Ideal .f32) = lab n := by
  show (((BitVec.ofNat 32 n).toInt : ℝ) : EReal) = lab n
  have : (BitVec.ofNat 32 n).toInt = (n : ℤ) := by
    rw [BitVec.toInt_eq_toNat_of_lt (by rw [BitVec.toNat_ofNat, Nat.mod_eq_of_lt (by omega)]; omega), BitVec.toNat_ofNat, Nat.mod_eq_of_lt (by omega)]
  rw [this]; unfold lab; norm_cast

/-! ## Eight columns side by side -/

/-- Eight vectors as the columns of one block. -/
def pack8 (v : ℕ → FVec Ideal S256 .f32) : FVec Ideal S256x8 .f32 :=
  concatenate S256x8 1 [⟨S256x1, shapeCast S256x1 (v 0) shapeCasts_S256_S256x1⟩, ⟨S256x1, shapeCast S256x1 (v 1) shapeCasts_S256_S256x1⟩,
    ⟨S256x1, shapeCast S256x1 (v 2) shapeCasts_S256_S256x1⟩, ⟨S256x1, shapeCast S256x1 (v 3) shapeCasts_S256_S256x1⟩,
    ⟨S256x1, shapeCast S256x1 (v 4) shapeCasts_S256_S256x1⟩, ⟨S256x1, shapeCast S256x1 (v 5) shapeCasts_S256_S256x1⟩,
    ⟨S256x1, shapeCast S256x1 (v 6) shapeCasts_S256_S256x1⟩, ⟨S256x1, shapeCast S256x1 (v 7) shapeCasts_S256_S256x1⟩]
    concatenates_S256x1_S256x1_S256x1_S256x1_S256x1_S256x1_S256x1_S256x1_S256x8_d1

/-- The same, filled up to 128 lanes with −∞. -/
def pack128 (v : ℕ → FVec Ideal S256 .f32) : FVec Ideal S256x128 .f32 :=
  concatenate S256x128 1 [⟨S256x8, pack8 v⟩, ⟨S256x120, k1_pay72 (F := Ideal)⟩] concatenates_S256x8_S256x120_S256x128_d1

theorem pack8_read (v : ℕ → FVec Ideal S256 .f32) (r : Fin 256) (l : Fin 8) : pack8 v (ix2 r l) = v l.val (ix1 r) := by
  pointwise [pack8]
  fin_cases l <;> simp

theorem pack128_read (v : ℕ → FVec Ideal S256 .f32) (r : Fin 256) (l : Fin 128) :
    pack128 v (ix2 r l) = if l.val < 8 then v l.val (ix1 r) else ⊥ := by
  pointwise [pack128, k1_pay72]
  by_cases h : l.val < 8
  · rw [dif_pos h, if_pos h]; exact pack8_read v r ⟨l.val, h⟩
  · rw [dif_neg h, if_neg h]; exact neg_inf

/-! ## A round over a tile -/

/-- The greatest entry of each row. -/
def tMax (x : FVec Ideal S256x4096 .f32) : FVec Ideal S256 .f32 :=
  multiReduction .maximumf [1] S256 x 0xFF800000#32 reduces_S256x4096_S256 (.inl rfl) rfl

/-- The least label among the positions of each row that hold it. -/
def tPos (g x : FVec Ideal S256x4096 .f32) : FVec Ideal S256 .f32 :=
  multiReduction .minimumf [1] S256
    (select (cmpf .oeq x (broadcastTo S256x4096 (shapeCast S256x1 (tMax x) shapeCasts_S256_S256x1) broadcasts_S256x1_S256x4096)) g
      (broadcast S256x4096 (Scalar.ofBits .f32 0x4E6E6B28#32)))
    0x7F800000#32 reduces_S256x4096_S256 (.inl rfl) rfl

/-- The block with −∞ at that label. -/
def tCut (g x : FVec Ideal S256x4096 .f32) : FVec Ideal S256x4096 .f32 :=
  select (cmpf .oeq g (broadcastTo S256x4096 (shapeCast S256x1 (tPos g x) shapeCasts_S256_S256x1) broadcasts_S256x1_S256x4096))
    (broadcast S256x4096 (Scalar.ofBits .f32 0xFF800000#32)) x

/-- The block after `k` rounds. -/
def tSeq (g x : FVec Ideal S256x4096 .f32) : ℕ → FVec Ideal S256x4096 .f32
  | 0 => x
  | k + 1 => tCut g (tSeq g x k)

/-- Labels that grow by one along each row. -/
def TLabels (g : FVec Ideal S256x4096 .f32) (b : ℕ) : Prop := ∀ r j, g (ix2 r j) = lab (b + j.val)

section
variable {g : FVec Ideal S256x4096 .f32} {b : ℕ} (hg : TLabels g b) (hb : b ≤ 100000) (x : FVec Ideal S256x4096 .f32) (r : Fin 256)

theorem tMax_read : tMax x (ix1 r) = x (ix2 r (pick fun j => x (ix2 r j))) := by
  pointwise [tMax]
  rw [neg_inf]
  exact fold_max_eq fun j => x (ix2 r j)

include hg hb in
theorem tPos_read : tPos g x (ix1 r) = lab (b + (pick fun j => x (ix2 r j)).val) := by
  pointwise [tPos]
  rw [pos_inf, tMax_read]
  simp only [hg r]
  refine fold_min_eq (fun j => x (ix2 r j)) (fun j => lab (b + j.val)) _ (fun a c h => lab_le.mpr ?_) fun a => ?_
  · have : a.val ≤ c.val := h
    omega
  · rw [billion]; exact lab_le.mpr (by have := a.isLt; omega)

include hg hb in
theorem tCut_read : (fun j => tCut g x (ix2 r j)) = Function.update (fun j => x (ix2 r j)) (pick fun j => x (ix2 r j)) ⊥ := by
  pointwise [tCut]
  rw [neg_inf, tPos_read hg hb]
  simp only [hg r]
  exact cut_eq (fun j => x (ix2 r j)) (fun j => lab (b + j.val)) _ fun a c h => Fin.ext (by have := lab_inj h; omega)

include hg hb in
theorem tSeq_read (k : ℕ) : (fun j => tSeq g x k (ix2 r j)) = rest (fun j => x (ix2 r j)) k := by
  induction k with
  | zero => rfl
  | succ k ih => exact (tCut_read hg hb (tSeq g x k) r).trans (by rw [ih]; rfl)

include hg hb in
theorem tMax_seq (k : ℕ) : tMax (tSeq g x k) (ix1 r) = rest (fun j => x (ix2 r j)) k (taken (fun j => x (ix2 r j)) k) := by
  rw [tMax_read, tSeq_read hg hb]; exact congrFun (tSeq_read hg hb x r k) _

include hg hb in
theorem tPos_seq (k : ℕ) : tPos g (tSeq g x k) (ix1 r) = lab (b + (taken (fun j => x (ix2 r j)) k).val) := by
  rw [tPos_read hg hb, tSeq_read hg hb]; rfl
end

/-! ## What a tile contributes -/

theorem tileVals_pack (i : grid1.Coords) (x0 : Vec Ideal S256x512 .f32) (x1 : Vec Ideal S4096x512 .f32) :
    tileVals i x0 x1 = pack128 fun k => tMax (tSeq (k1_pay45 (F := Ideal) i) (k1_pay46 i x0 x1) k) :=
  by
  unfold tileVals k1_pay73; dsimp only; rw [shapeCast_self]; rfl

theorem tileCols_pack (i : grid1.Coords) (x0 : Vec Ideal S256x512 .f32) (x1 : Vec Ideal S4096x512 .f32) :
    tileCols i x0 x1 = pack128 fun k => tPos (k1_pay45 (F := Ideal) i) (tSeq (k1_pay45 (F := Ideal) i) (k1_pay46 i x0 x1) k) :=
  by
  unfold tileCols k1_pay1; dsimp only; rw [shapeCast_self]; rfl

/-- The labels of a tile are its columns' numbers in the whole row. -/
theorem tile_labels (i : grid1.Coords) : TLabels (k1_pay45 (F := Ideal) i) (4096 * (i 1).val) := fun r j => by
  have h1 : (i 1).val < 13 := (i 1).isLt
  have h2 := j.isLt
  pointwise [k1_pay45]
  rw [sitofp_small _ (by omega)]
  have h3 : Scalar.muli (BitVec.ofNat 32 (i 1).val) 4096#32 = BitVec.ofNat 32 (4096 * (i 1).val) := by
    apply BitVec.eq_of_toNat_eq
    show ((BitVec.ofNat 32 (i 1).val) * 4096#32).toNat = _
    rw [BitVec.toNat_mul, BitVec.toNat_ofNat, BitVec.toNat_ofNat, BitVec.toNat_ofNat]; omega
  rw [h3]
  have h4 := sitofp_small (4096 * (i 1).val) (by omega)
  have h5 : (FloatOps.sitofp FTy.f32 (BitVec.ofNat 32 (4096 * (i 1).val)) : Ideal .f32) = (((BitVec.ofNat 32 (4096 * (i 1).val)).toInt : ℝ) : EReal) := rfl
  rw [← h5, h4]
  unfold lab
  rw [← EReal.coe_add]; push_cast; rw [add_comm]

/-- The masked scores of a tile. -/
theorem tile_scores (i : grid1.Coords) (x0 : Vec Ideal S256x512 .f32) (x1 : Vec Ideal S4096x512 .f32) (r : Fin 256) (j : Fin 4096) :
    k1_pay46 (F := Ideal) i x0 x1 (ix2 r j)
      = if 4096 * (i 1).val + j.val < 50000 then ∑ k : Fin 512, x0 (ix2 r k) * x1 (ix2 j k) else ⊥ := by
  have h := tile_labels i r j
  pointwise [k1_pay46]
  rw [h, fifty, neg_inf, show (((50000 : ℕ) : ℝ) : EReal) = lab 50000 from rfl]
  by_cases hc : 4096 * (i 1).val + j.val < 50000
  · rw [if_pos hc, if_pos (lab_lt.mpr hc)]
  · rw [if_neg hc, if_neg fun h' => hc (lab_lt.mp h')]

theorem tileVals_read (i : grid1.Coords) (x0 : Vec Ideal S256x512 .f32) (x1 : Vec Ideal S4096x512 .f32) (r : Fin 256) (l : Fin 128) :
    tileVals i x0 x1 (ix2 r l) = if l.val < 8 then rest (fun j => k1_pay46 i x0 x1 (ix2 r j)) l.val (taken (fun j => k1_pay46 i x0 x1 (ix2 r j)) l.val) else ⊥ := by
  have h1 : (i 1).val < 13 := (i 1).isLt
  rw [tileVals_pack, pack128_read, tMax_seq (tile_labels i) (by omega)]

theorem tileCols_read (i : grid1.Coords) (x0 : Vec Ideal S256x512 .f32) (x1 : Vec Ideal S4096x512 .f32) (r : Fin 256) (l : Fin 128) :
    tileCols i x0 x1 (ix2 r l) = if l.val < 8 then lab (4096 * (i 1).val + (taken (fun j => k1_pay46 (F := Ideal) i x0 x1 (ix2 r j)) l.val).val) else ⊥ := by
  have h1 : (i 1).val < 13 := (i 1).isLt
  rw [tileCols_pack, pack128_read, tPos_seq (tile_labels i) (by omega)]

/-! ## A round over the candidates -/

/-- The greatest candidate of each row. -/
def bMax (x : FVec Ideal S256x1664 .f32) : FVec Ideal S256 .f32 :=
  multiReduction .maximumf [1] S256 x 0xFF800000#32 reduces_S256x1664_S256 (.inl rfl) rfl

/-- Where the first lane that holds it is. -/
def bMask (g x : FVec Ideal S256x1664 .f32) : IVec S256x1664 1 :=
  cmpf .oeq g (broadcastTo S256x1664 (shapeCast S256x1 (multiReduction .minimumf [1] S256
    (select (cmpf .oeq x (broadcastTo S256x1664 (shapeCast S256x1 (bMax x) shapeCasts_S256_S256x1) broadcasts_S256x1_S256x1664)) g
      (broadcast S256x1664 (Scalar.ofBits .f32 0x4E6E6B28#32)))
    0x7F800000#32 reduces_S256x1664_S256 (.inl rfl) rfl) shapeCasts_S256_S256x1) broadcasts_S256x1_S256x1664)

/-- The column number that lane carries. -/
def bPos (g y x : FVec Ideal S256x1664 .f32) : FVec Ideal S256 .f32 :=
  multiReduction .minimumf [1] S256 (select (bMask g x) y (broadcast S256x1664 (Scalar.ofBits .f32 0x4E6E6B28#32)))
    0x7F800000#32 reduces_S256x1664_S256 (.inl rfl) rfl

/-- The block with −∞ at that lane. -/
def bCut (g x : FVec Ideal S256x1664 .f32) : FVec Ideal S256x1664 .f32 :=
  select (bMask g x) (broadcast S256x1664 (Scalar.ofBits .f32 0xFF800000#32)) x

/-- The block after `k` rounds. -/
def bSeq (g x : FVec Ideal S256x1664 .f32) : ℕ → FVec Ideal S256x1664 .f32
  | 0 => x
  | k + 1 => bCut g (bSeq g x k)

theorem lane_labels (r : Fin 256) (j : Fin 1664) : k1_pay4 (F := Ideal) (ix2 r j) = lab j.val := by
  have h2 := j.isLt
  pointwise [k1_pay4]
  exact sitofp_small _ (by omega)

section
variable (x y : FVec Ideal S256x1664 .f32) (r : Fin 256)

theorem bMax_read : bMax x (ix1 r) = x (ix2 r (pick fun j => x (ix2 r j))) := by
  pointwise [bMax]
  rw [neg_inf]
  exact fold_max_eq fun j => x (ix2 r j)

theorem bMask_read (j : Fin 1664) : bMask (k1_pay4 (F := Ideal)) x (ix2 r j)
    = BitVec.ofBool (decide (lab j.val = lab (pick fun j => x (ix2 r j)).val)) := by
  have h : multiReduction .minimumf [1] S256
    (select (cmpf .oeq x (broadcastTo S256x1664 (shapeCast S256x1 (bMax x) shapeCasts_S256_S256x1) broadcasts_S256x1_S256x1664)) (k1_pay4 (F := Ideal))
      (broadcast S256x1664 (Scalar.ofBits .f32 0x4E6E6B28#32)))
    0x7F800000#32 reduces_S256x1664_S256 (.inl rfl) rfl (ix1 r) = lab (pick fun j => x (ix2 r j)).val := by
    pointwise
    rw [pos_inf, bMax_read]
    simp only [lane_labels r]
    refine fold_min_eq (fun j => x (ix2 r j)) (fun j => lab j.val) _ (fun a c h => lab_le.mpr h) fun a => ?_
    rw [billion]; exact lab_le.mpr (by have := a.isLt; omega)
  rw [← h, ← lane_labels r j]
  pointwise [bMask]

theorem bPos_read (hy : y (ix2 r (pick fun j => x (ix2 r j))) ≤ lab 1000000000) :
    bPos (k1_pay4 (F := Ideal)) y x (ix1 r) = y (ix2 r (pick fun j => x (ix2 r j))) := by
  pointwise [bPos]
  simp only [bMask_read]
  pointwise
  rw [pos_inf, billion]
  exact fold_min_at (fun j : Fin 1664 => lab j.val) (fun j => y (ix2 r j)) _ _ (fun a c h => Fin.ext (lab_inj h)) hy

theorem bCut_read : (fun j => bCut (k1_pay4 (F := Ideal)) x (ix2 r j)) = Function.update (fun j => x (ix2 r j)) (pick fun j => x (ix2 r j)) ⊥ := by
  pointwise [bCut]
  simp only [bMask_read]
  pointwise
  rw [neg_inf]
  exact cut_eq (fun j => x (ix2 r j)) (fun j : Fin 1664 => lab j.val) _ fun a c h => Fin.ext (lab_inj h)

theorem bSeq_read (k : ℕ) : (fun j => bSeq (k1_pay4 (F := Ideal)) x k (ix2 r j)) = rest (fun j => x (ix2 r j)) k := by
  induction k with
  | zero => rfl
  | succ k ih => exact (bCut_read (bSeq _ x k) r).trans (by rw [ih]; rfl)
end

/-! ## What is handed out -/

theorem bestVals_pack (a : Vec Ideal S256x1664 .f32) : bestVals (F := Ideal) a = pack8 fun k => bMax (bSeq (k1_pay4 (F := Ideal)) a k) := rfl

theorem bestCols_pack (a b : Vec Ideal S256x1664 .f32) :
    bestCols (F := Ideal) a b = fptosi 32 (pack8 fun k => bPos (k1_pay4 (F := Ideal)) b (bSeq (k1_pay4 (F := Ideal)) a k)) := rfl

theorem bestVals_read (a : Vec Ideal S256x1664 .f32) (r : Fin 256) (k : Fin 8) :
    bestVals (F := Ideal) a (ix2 r k) = rest (fun j => a (ix2 r j)) k.val (taken (fun j => a (ix2 r j)) k.val) := by
  rw [bestVals_pack, pack8_read, bMax_read, bSeq_read]; exact congrFun (bSeq_read a r k.val) _

theorem bestCols_read (a b : Vec Ideal S256x1664 .f32) (r : Fin 256) (k : Fin 8) (n : ℕ) (hn : n < 50000)
    (h : b (ix2 r (taken (fun j => a (ix2 r j)) k.val)) = lab n) : bestCols (F := Ideal) a b (ix2 r k) = BitVec.ofNat 32 n := by
  have e : bPos (k1_pay4 (F := Ideal)) b (bSeq (k1_pay4 (F := Ideal)) a k.val) (ix1 r) = lab n := by
    have hp : (pick fun j => bSeq (k1_pay4 (F := Ideal)) a k.val (ix2 r j)) = taken (fun j => a (ix2 r j)) k.val := by
      rw [bSeq_read]; rfl
    rw [bPos_read, hp, h]
    rw [hp, h]; exact lab_le.mpr (by omega)
  rw [bestCols_pack]
  show FloatOps.fptosi 32 (pack8 _ (ix2 r k)) = _
  rw [pack8_read, e]
  show Ideal.fptosi 32 ((n : ℝ) : EReal) = _
  rw [Ideal.fptosi, Ideal.toIntClamped_coe, if_pos (Nat.cast_nonneg n), Int.floor_natCast, min_eq_right (by norm_num; omega), max_eq_right (by norm_num),
    BitVec.ofInt_natCast]

end Cert.KernelIdeal.Hand
-- ==== Proof.KernelIdeal.Results.lean ====
module

public import proofs.«01_k».proof.Proof.KernelIdeal.Scores
public import proofs.«01_k».proof.Proof.KernelIdeal.TopRead
public import proofs.«01_k».proof.Proof.KernelIdeal.Rounds

/-!
# What the kernel leaves in its results

A point's scores are one document tile of the query's scores, so the carried buffers hold each tile's eight best with
their documents, and the merge of them is the query's eight best.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.Score Cert.Select

variable (m : (ℓ : Loc nD τ sig) → Buf (Elt Ideal) ℓ) (ρ : Dev nD → PrngReg) (c : Dev nD)

/-- The query of a row of a point's block. -/
def queryAt (q : ℕ) (hq : q < 4) (r : Fin 256) : Fin 1024 := ⟨256 * q + r.val, by have := r.isLt; omega⟩

/-- A point's scores are a tile of its query's. -/
theorem point_scores (t : Fin cfg1.N) (hq : t.val / 13 < 4) (r : Fin 256) :
    (fun j => k1_pay46 (F := Ideal) (grid1.coords t) (topBlk (E3 m ρ) c 0 t) (topBlk (E3 m ρ) c 1 t) (ix2 r j))
      = tile (rowS m c (queryAt (t.val / 13) hq r)) (t.val % 13) := by
  funext j
  refine (tile_scores (grid1.coords t) _ _ r j).trans ?_
  rw [(top_index t).2.2.2.2]
  unfold tile
  by_cases h : 4096 * (t.val % 13) + j.val < 50000
  · rw [if_pos h, dif_pos h]
    refine Finset.sum_congr rfl fun k _ => congrArg₂ (fun a b : EReal => a * b) ?_ ?_
    · exact (topBlk0_read (E3 m ρ) c t r k).trans (E3_query m ρ c _ k)
    · exact (topBlk1_read (E3 m ρ) c t j k).trans (E3_doc m ρ c _ k h)
  · rw [if_neg h, dif_neg h]

theorem ptVals_read (t : Fin cfg1.N) (hq : t.val / 13 < 4) (r : Fin 256) (p : Fin 1664) (hp : p.val / 128 = t.val % 13) :
    ptVals (E3 m ρ) c t (ix2 r ⟨p.val % 128, Nat.mod_lt _ (by decide)⟩) = carry (rowS m c (queryAt (t.val / 13) hq r)) p := by
  refine (tileVals_read (grid1.coords t) _ _ r _).trans ?_
  rw [point_scores m ρ c t hq r, ← hp]
  by_cases h : p.val % 128 < 8
  · exact (if_pos h).trans ((rest_at (tile (rowS m c (queryAt (t.val / 13) hq r)) (p.val / 128)) _ eight_inj
      (tile_valid _ (rowS_valid m c _) (by have := p.isLt; omega)) (p.val % 128) h).trans (if_pos h).symm)
  · exact (if_neg h).trans (if_neg h).symm

theorem ptCols_read (t : Fin cfg1.N) (hq : t.val / 13 < 4) (r : Fin 256) (p : Fin 1664) (hp : p.val / 128 = t.val % 13) (h : p.val % 128 < 8) :
    ptCols (E3 m ρ) c t (ix2 r ⟨p.val % 128, Nat.mod_lt _ (by decide)⟩) = lab (laneCol (rowS m c (queryAt (t.val / 13) hq r)) p.val) := by
  refine (tileCols_read (grid1.coords t) _ _ r _).trans ?_
  rw [point_scores m ρ c t hq r, if_pos h, (top_index t).2.2.2.2, ← hp]
  rfl

/-- The point of a lane of the carried buffers. -/
theorem pt_of_lane (q : ℕ) (hq : q < 4) (p : Fin 1664) : ∃ t : Fin cfg1.N, pt (13 * q + p.val / 128) = t ∧ q = t.val / 13 ∧ p.val / 128 = t.val % 13 := by
  have hp := p.isLt
  have hn : 13 * q + p.val / 128 < cfg1.N := by show _ < 52; omega
  refine ⟨⟨13 * q + p.val / 128, hn⟩, pt_val ⟨13 * q + p.val / 128, hn⟩, ?_, ?_⟩
  · show q = (13 * q + p.val / 128) / 13; omega
  · show p.val / 128 = (13 * q + p.val / 128) % 13; omega

theorem rowVals_read (q : ℕ) (hq : q < 4) (r : Fin 256) :
    (fun p => rowVals (E3 m ρ) c q (ix2 r p)) = carry (rowS m c (queryAt q hq r)) := by
  funext p
  obtain ⟨t, ht, rfl, h2⟩ := pt_of_lane q hq p
  exact (congrArg (fun t => ptVals (E3 m ρ) c t (ix2 r ⟨p.val % 128, Nat.mod_lt _ (by decide)⟩)) ht).trans (ptVals_read m ρ c t hq r p h2)

theorem rowCols_read (q : ℕ) (hq : q < 4) (r : Fin 256) (p : Fin 1664) (h : p.val % 128 < 8) :
    rowCols (E3 m ρ) c q (ix2 r p) = lab (laneCol (rowS m c (queryAt q hq r)) p.val) := by
  obtain ⟨t, ht, rfl, h2⟩ := pt_of_lane q hq p
  exact (congrArg (fun t => ptCols (E3 m ρ) c t (ix2 r ⟨p.val % 128, Nat.mod_lt _ (by decide)⟩)) ht).trans (ptCols_read m ρ c t hq r p h2 h)

/-- The results: each query's eight best scores, and their documents. -/
def outVals : FVec Ideal S1024x8 .f32 := fun i => rowS m c (i 0) (best (rowS m c (i 0)) (rowS_valid m c (i 0)) (i 1))
def outCols : IVec S1024x8 32 := fun i => BitVec.ofNat 32 (best (rowS m c (i 0)) (rowS_valid m c (i 0)) (i 1)).val

theorem result_vals : (topDat (E3 m ρ) c).arrAt 2 cfg1.N = outVals m c := by
  refine top_array2 (E3 m ρ) c (outVals m c) fun t r k => ?_
  have hq : t.val / 13 < 4 := by have : t.val < 52 := t.isLt; omega
  refine (bestVals_read _ r k).trans ?_
  rw [rowVals_read m ρ c _ hq r]
  exact best_value (rowS m c (queryAt (t.val / 13) hq r)) (rowS_valid m c _) k

theorem result_cols : (topDat (E3 m ρ) c).arrAt 3 cfg1.N = outCols m c := by
  refine top_array3 (E3 m ρ) c (outCols m c) fun t r k => ?_
  have hq : t.val / 13 < 4 := by have : t.val < 52 := t.isLt; omega
  refine (bestCols_read _ _ r k (best (rowS m c (queryAt (t.val / 13) hq r)) (rowS_valid m c _) k).val (Fin.isLt _) ?_).trans rfl
  rw [rowVals_read m ρ c _ hq r]
  exact rowCols_read m ρ c _ hq r _ (taken_lane _ (rowS_valid m c _) k.val k.isLt)

end Cert.KernelIdeal.Hand
-- ==== Proof.Reference.lean ====
module

public import proofs.«01_k».proof.Proof.Norm
public import proofs.«01_k».proof.Proof.Gen.ReferenceIdeal.Run

/-!
# What the reference leaves in its results

Its scores are the same sums, and the first eight places of its stable descending sort are the eight best.
-/

@[expose] public section

set_option maxRecDepth 16384

noncomputable section

namespace Cert.ReferenceIdeal.Hand

open Cert.ReferenceIdeal Cert.ReferenceIdeal.Gen
open Idealize.ShloMosaic Idealize.ShloMosaic.TcCoe
open Idealize.SL Idealize.SL.Sem
open Cert.Score Cert.Select

/-- The projected means plus the bias. -/
def refQuery (x : FVec Ideal S1024x50x512 .f32) (w : FVec Ideal S512x512 .f32) (b : FVec Ideal S512 .f32) : FVec Ideal S1024x512 .f32 :=
  addf (Host.dotGeneral dot_S1024x512_S512x512_S1024x512_1_0_0_1_n_n none
      (Host.divf (Host.reduceAdd x (constant S_ .f32 0x00000000#32) reducesTo_S1024x50x512_S1024x512_d1 h_S_)
        (broadcastInDim S1024x512 ![] bcast_S_S1024x512 (constant S_ .f32 0x42480000#32)))
      (transpose S512x512 [1, 0] w transposes_S512x512_S512x512_1_0))
    (broadcastInDim S1024x512 ![0, 1] bcast_S1x512_S1024x512_0_1 (broadcastInDim S1x512 ![1] bcast_S512_S1x512_1 b))

/-- Each row divided by its norm plus a small number. -/
def unitQ (x : FVec Ideal S1024x512 .f32) : FVec Ideal S1024x512 .f32 :=
  Host.divf x (broadcastInDim S1024x512 ![0, 1] bcast_S1024x1_S1024x512_0_1 (addf (Host.sqrt (broadcastInDim S1024x1 ![0] bcast_S1024_S1024x1_0
    (Host.reduceAdd (mulf x x) (constant S_ .f32 0x00000000#32) reducesTo_S1024x512_S1024_d1 h_S_)))
    (broadcastInDim S1024x1 ![] bcast_S_S1024x1 (constant S_ .f32 0x2B8CBCCC#32))))
def unitD (x : FVec Ideal S50000x512 .f32) : FVec Ideal S50000x512 .f32 :=
  Host.divf x (broadcastInDim S50000x512 ![0, 1] bcast_S50000x1_S50000x512_0_1 (addf (Host.sqrt (broadcastInDim S50000x1 ![0] bcast_S50000_S50000x1_0
    (Host.reduceAdd (mulf x x) (constant S_ .f32 0x00000000#32) reducesTo_S50000x512_S50000_d1 h_S_)))
    (broadcastInDim S50000x1 ![] bcast_S_S50000x1 (constant S_ .f32 0x2B8CBCCC#32))))

/-- All the scores. -/
def refScores (x : FVec Ideal S1024x50x512 .f32) (w : FVec Ideal S512x512 .f32) (b : FVec Ideal S512 .f32) (y : FVec Ideal S50000x512 .f32) :
    FVec Ideal S1024x50000 .f32 :=
  Host.dotGeneral dot_S1024x512_S512x50000_S1024x50000_1_0_0_1_n_n none (unitQ (refQuery x w b))
    (transpose S512x50000 [1, 0] (unitD (unitD y)) transposes_S50000x512_S512x50000_1_0)

theorem refQuery_read (x : FVec Ideal S1024x50x512 .f32) (w : FVec Ideal S512x512 .f32) (b : FVec Ideal S512 .f32) (q : Fin 1024) (e : Fin 512) :
    refQuery x w b (ix2 q e) = query (fun q s k => x (ix3 q s k)) (fun e k => w (ix2 e k)) (fun e => b (ix1 e)) q e := by
  pointwise [refQuery, query]
theorem unitQ_read (x : FVec Ideal S1024x512 .f32) (q : Fin 1024) (k : Fin 512) : unitQ x (ix2 q k) = nrm (fun j => x (ix2 q j)) k := by
  pointwise [unitQ, nrm, eps]
theorem unitD_read (x : FVec Ideal S50000x512 .f32) (d : Fin 50000) (k : Fin 512) : unitD x (ix2 d k) = nrm (fun j => x (ix2 d j)) k := by
  pointwise [unitD, nrm, eps]
theorem product_read (x : FVec Ideal S1024x512 .f32) (y : FVec Ideal S50000x512 .f32) (q : Fin 1024) (d : Fin 50000) :
    Host.dotGeneral dot_S1024x512_S512x50000_S1024x50000_1_0_0_1_n_n none x (transpose S512x50000 [1, 0] y transposes_S50000x512_S512x50000_1_0) (ix2 q d)
      = ∑ k : Fin 512, x (ix2 q k) * y (ix2 d k) := by
  pointwise

theorem refScores_read (x : FVec Ideal S1024x50x512 .f32) (w : FVec Ideal S512x512 .f32) (b : FVec Ideal S512 .f32) (y : FVec Ideal S50000x512 .f32)
    (q : Fin 1024) (d : Fin 50000) : refScores x w b y (ix2 q d)
      = score (fun q s k => x (ix3 q s k)) (fun e k => w (ix2 e k)) (fun e => b (ix1 e)) (fun d k => y (ix2 d k)) q d := by
  refine (product_read _ _ q d).trans (Finset.sum_congr rfl fun k _ => congrArg₂ (fun a b : EReal => a * b) ?_ ?_)
  · exact (unitQ_read _ q k).trans (congrArg (fun v => nrm v k) (funext fun j => refQuery_read x w b q j))
  · exact (unitD_read _ d k).trans (congrArg (fun v => nrm v k) (funext fun j => unitD_read y d j))

/-- A sort along the second axis, read: the places of row `q` permuted by the row's own order. -/
theorem sort_read {α β : Type} (cmp : α × β → α × β → BitVec 1) (x : S1024x50000.Idx → α) (y : S1024x50000.Idx → β) (q : Fin 1024) (k : Fin 50000) :
    (Host.sort2 S1024x50000 1 cmp x y).1 (ix2 q k)
        = x (ix2 q (sortedFrom (fun a b => cmp (x (ix2 q a), y (ix2 q a)) (x (ix2 q b), y (ix2 q b)) == 1#1) k))
      ∧ (Host.sort2 S1024x50000 1 cmp x y).2 (ix2 q k)
        = y (ix2 q (sortedFrom (fun a b => cmp (x (ix2 q a), y (ix2 q a)) (x (ix2 q b), y (ix2 q b)) == 1#1) k)) := by
  have al : ∀ a : Fin 50000, Shape.Idx.along (s := S1024x50000) (ix2 q k) (1 : Fin 2) a = ix2 q a := fun a => Shape.idx_ext₂ rfl rfl
  have hp : (fun a b : Fin 50000 => cmp (x (Shape.Idx.along (s := S1024x50000) (ix2 q k) (1 : Fin 2) a), y (Shape.Idx.along (s := S1024x50000) (ix2 q k) (1 : Fin 2) a))
      (x (Shape.Idx.along (s := S1024x50000) (ix2 q k) (1 : Fin 2) b), y (Shape.Idx.along (s := S1024x50000) (ix2 q k) (1 : Fin 2) b)) == 1#1)
      = fun a b => cmp (x (ix2 q a), y (ix2 q a)) (x (ix2 q b), y (ix2 q b)) == 1#1 := by
    funext a b; rw [al, al]
  unfold Host.sort2
  rw [dif_pos (show 1 < S1024x50000.rank by decide)]
  refine ⟨congrArg x ?_, congrArg y ?_⟩
  · exact (al _).trans (congrArg (fun R => (ix2 q (sortedFrom R k) : S1024x50000.Idx)) hp)
  · exact (al _).trans (congrArg (fun R => (ix2 q (sortedFrom R k) : S1024x50000.Idx)) hp)

theorem top_read (x : FVec Ideal S1024x50000 .f32) (q : Fin 1024) (S : Fin 50000 → EReal) (hS : ∀ d, ⊥ < S d) (hx : ∀ d, x (ix2 q d) = S d) (k : Fin 8) :
    (Host.topK S1024x8 1 (FloatOps.cmpfTotal .gt) x sliceFits_S1024x50000_S1024x8).1 (ix2 q k) = S (best S hS k)
      ∧ (Host.topK S1024x8 1 (FloatOps.cmpfTotal .gt) x sliceFits_S1024x50000_S1024x8).2 (ix2 q k) = BitVec.ofNat 32 (best S hS k).val := by
  have hR : sortedFrom (fun a b => (FloatOps.cmpfTotal (F := Ideal) .gt (x (ix2 q a)) (x (ix2 q b))) == 1#1) (k.castLE (by decide)) = best S hS k := by
    refine sorted_best S hS _ (fun a b => ?_) k
    rw [hx, hx, Ideal.cmpfTotal_def]
    by_cases h : S b < S a <;> simp [Ideal.cmp, CmpDirection.ordered, h]
  have hi : (fun a => ⟨0 + ((ix2 q k : S1024x8.Idx) a).val, Nat.lt_of_lt_of_le (Nat.add_lt_add_left ((ix2 q k : S1024x8.Idx) _).isLt _) (sliceFits_S1024x50000_S1024x8.2 a)⟩ : S1024x50000.Idx)
      = ix2 q (k.castLE (by decide)) :=
    Shape.idx_ext₂ (Nat.zero_add _) (Nat.zero_add _)
  have hs := sort_read (fun l r => FloatOps.cmpfTotal (F := Ideal) (φ := .f32) .gt l.1 r.1) x
    (fun i => if hd : 1 < S1024x50000.rank then iotaInDim S1024x50000 32 ⟨1, hd⟩ i else 0#32) q (k.castLE (by decide))
  rw [hR] at hs
  refine ⟨(congrArg _ hi).trans (hs.1.trans (hx _)), (congrArg _ hi).trans (hs.2.trans ?_)⟩
  exact dif_pos (by decide)

end Cert.ReferenceIdeal.Hand
-- ==== Proof.Algebraic.lean ====
/-
  The value claim: over the extended reals the kernel's two results are the reference's two, element by element.
-/
module

public import proofs.«01_k».proof.Defs
public import proofs.«01_k».proof.Proof.KernelIdeal.Results
public import proofs.«01_k».proof.Proof.Reference

@[expose] public section

set_option maxRecDepth 16384

noncomputable section

namespace Cert.Proof

open Idealize.ShloMosaic Idealize.ShloMosaic.TcCoe Idealize.SL.Sem
open Cert.KernelIdeal (nD τ sig)
open Cert.KernelIdeal.Hand (outVals outCols rowS rowS_valid)
open Cert.ReferenceIdeal.Hand (refScores refScores_read top_read)

variable (m : (ℓ : Loc nD τ sig) → Buf (Elt Ideal) ℓ) (c : Dev nD)
  (x : FVec Ideal Cert.ReferenceIdeal.S1024x50x512 .f32) (w : FVec Ideal Cert.ReferenceIdeal.S512x512 .f32)
  (b : FVec Ideal Cert.ReferenceIdeal.S512 .f32) (y : FVec Ideal Cert.ReferenceIdeal.S50000x512 .f32)
  (hx : x = m ((c.tc : Thread nD τ).loc Cert.KernelIdeal.main_arg0)) (hw : w = m ((c.tc : Thread nD τ).loc Cert.KernelIdeal.main_arg1))
  (hb : b = m ((c.tc : Thread nD τ).loc Cert.KernelIdeal.main_arg2)) (hy : y = m ((c.tc : Thread nD τ).loc Cert.KernelIdeal.main_arg3))
include hx hw hb hy

/-- On the kernel's arguments the reference scores a query as the kernel does. -/
theorem scores_agree (q : Fin 1024) (d : Fin 50000) : refScores x w b y (ix2 q d) = rowS m c q d := by
  subst hx hw hb hy
  exact refScores_read _ _ _ _ q d

theorem values_agree : (Host.topK Cert.ReferenceIdeal.S1024x8 1 (FloatOps.cmpfTotal .gt) (refScores x w b y)
    Cert.ReferenceIdeal.Gen.sliceFits_S1024x50000_S1024x8).1 = outVals m c := by
  funext i
  have hi : i = ix2 (i 0) (i 1) := Shape.idx_ext₂ rfl rfl
  rw [hi]
  exact (top_read _ (i 0) (rowS m c (i 0)) (rowS_valid m c (i 0)) (scores_agree m c x w b y hx hw hb hy (i 0)) (i 1)).1

theorem indices_agree : (Host.topK Cert.ReferenceIdeal.S1024x8 1 (FloatOps.cmpfTotal .gt) (refScores x w b y)
    Cert.ReferenceIdeal.Gen.sliceFits_S1024x50000_S1024x8).2 = outCols m c := by
  funext i
  have hi : i = ix2 (i 0) (i 1) := Shape.idx_ext₂ rfl rfl
  rw [hi]
  exact (top_read _ (i 0) (rowS m c (i 0)) (rowS_valid m c (i 0)) (scores_agree m c x w b y hx hw hb hy (i 0)) (i 1)).2

omit hx hw hb hy
theorem algebraic : Cert.algebraic_KernelIdeal_ReferenceIdeal := fun m g m' g' _ h =>
  ⟨outVals m, outCols m,
    (θ_run Cert.KernelIdeal.defs _ _).mono (fun r h c =>
      ⟨(h c).1.trans (Cert.KernelIdeal.Hand.result_vals m g c), (h c).2.1.trans (Cert.KernelIdeal.Hand.result_cols m g c), (h c).2.2⟩)
      (Cert.KernelIdeal.Hand.run_results m g),
    (θ_run Cert.ReferenceIdeal.defs _ _).mono (fun r hr c =>
      ⟨(hr c).1.trans (values_agree m c _ _ _ _ (h c).1 (h c).2.1 (h c).2.2.1 (h c).2.2.2),
       (hr c).2.1.trans (indices_agree m c _ _ _ _ (h c).1 (h c).2.1 (h c).2.2.1 (h c).2.2.2), (hr c).2.2⟩)
      (Cert.ReferenceIdeal.Value.run m' g')⟩

end Cert.Proof

end
-- ==== Proof.lean ====
/-
  The certificate's claims, collected.
-/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, frame_kernel, frame_ideal, frame_reference, trivial, algebraic⟩

end Cert.Proof

end
